-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_coefficients [hPre_unit_coefficients : Cert.Pre_unit_coefficients.Facts] (m : (ℓ : Loc Cert.KernelIdeal.nD Cert.KernelIdeal.τ Cert.KernelIdeal.sig) → Buf (Elt Ideal) ℓ) : Prop :=
  ∀ c : Dev Cert.KernelIdeal.nD,
    (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_unit_coefficients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_coefficients [hPre_unit_coefficients : Cert.Pre_unit_coefficients.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_unit_coefficients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_unit_coefficients [hKernelIdeal : Cert.KernelIdeal.Facts] [hPre_unit_coefficients : Cert.Pre_unit_coefficients.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_coefficients m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_unit_coefficients [hReferenceIdeal : Cert.ReferenceIdeal.Facts] [hPre_unit_coefficients : Cert.Pre_unit_coefficients.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_coefficients m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_unit_coefficients [hKernelIdeal : Cert.KernelIdeal.Facts] [hReferenceIdeal : Cert.ReferenceIdeal.Facts] [hPre_unit_coefficients : Cert.Pre_unit_coefficients.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_coefficients m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1997) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_unit_coefficients : Cert.Pre_unit_coefficients.Facts),
    quiescent_Kernel (hKernel := hKernel)
    ∧ quiescent_KernelIdeal (hKernelIdeal := hKernelIdeal)
    ∧ quiescent_KernelIdeal_pre_unit_coefficients (hKernelIdeal := hKernelIdeal) (hPre_unit_coefficients := hPre_unit_coefficients)
    ∧ quiescent_ReferenceIdeal (hReferenceIdeal := hReferenceIdeal)
    ∧ quiescent_ReferenceIdeal_pre_unit_coefficients (hReferenceIdeal := hReferenceIdeal) (hPre_unit_coefficients := hPre_unit_coefficients)
    ∧ preserves_Kernel_KernelIdeal
    ∧ algebraic_KernelIdeal_ReferenceIdeal_pre_unit_coefficients (hKernelIdeal := hKernelIdeal) (hReferenceIdeal := hReferenceIdeal) (hPre_unit_coefficients := hPre_unit_coefficients)
-- ==== Pre_unit_coefficients.lean ====
abbrev S10000x1 : Shape := ⟨2, ![10000, 1]⟩
abbrev S2x640000 : Shape := ⟨2, ![2, 640000]⟩
abbrev S11 : Shape := ⟨1, ![11]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S11 : S_.BroadcastsInDim S11 (![] : Fin 0 → Fin S11.rank)
  bcast_S_S10000x1 : S_.BroadcastsInDim S10000x1 (![] : Fin 0 → Fin S10000x1.rank)
  bcast_S_S1x32 : S_.BroadcastsInDim S1x32 (![] : Fin 0 → Fin S1x32.rank)
  bcast_S_S32 : S_.BroadcastsInDim S32 (![] : Fin 0 → Fin S32.rank)
  bcast_S_S32x64 : S_.BroadcastsInDim S32x64 (![] : Fin 0 → Fin S32x64.rank)
  bcast_S_S64 : S_.BroadcastsInDim S64 (![] : Fin 0 → Fin S64.rank)

variable [Facts]

def fn {F : FTy → Type} [FloatOps F] (main_arg0 : FVec F S10000x1 .f32) (main_arg1 : IVec S2x640000 32) (main_arg2 : FVec F S11 .f32) (main_arg3 : FVec F S1x32 .f32) (main_arg4 : FVec F S32 .f32) (main_arg5 : FVec F S32x64 .f32) (main_arg6 : FVec F S64 .f32) (main_arg7 : FVec F S64x1 .f32) (main_arg8 : FVec F S1 .f32) : IVec S11 1 × IVec S10000x1 1 × IVec S1x32 1 × IVec S32 1 × IVec S32x64 1 × IVec S64 1 :=
  let main_cst : FVec F S_ .f32 := constant S_ .f32 0x3F800000#32
  let main_v0 : FVec F S11 .f32 := broadcastInDim S11 ![] bcast_S_S11 main_cst
  let main_v1 : IVec S11 1 := cmpf .oeq main_arg2 main_v0
  let main_v2 : FVec F S10000x1 .f32 := Host.absf main_arg0
  let main_cst_0 : FVec F S_ .f32 := constant S_ .f32 0x7F800000#32
  let main_v3 : FVec F S10000x1 .f32 := broadcastInDim S10000x1 ![] bcast_S_S10000x1 main_cst_0
  let main_v4 : IVec S10000x1 1 := cmpf .olt main_v2 main_v3
  let main_v5 : FVec F S1x32 .f32 := Host.absf main_arg3
  let main_cst_1 : FVec F S_ .f32 := constant S_ .f32 0x7F800000#32
  let main_v6 : FVec F S1x32 .f32 := broadcastInDim S1x32 ![] bcast_S_S1x32 main_cst_1
  let main_v7 : IVec S1x32 1 := cmpf .olt main_v5 main_v6
  let main_v8 : FVec F S32 .f32 := Host.absf main_arg4
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_v11 : FVec F S32x64 .f32 := Host.absf main_arg5
  let main_cst_3 : FVec F S_ .f32 := constant S_ .f32 0x7F800000#32
  let main_v12 : FVec F S32x64 .f32 := broadcastInDim S32x64 ![] bcast_S_S32x64 main_cst_3
  let main_v13 : IVec S32x64 1 := cmpf .olt main_v11 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  (main_v1, main_v4, main_v7, main_v10, main_v13, main_v16)
-- ==== Kernel.lean ====
abbrev S10000x1 : Shape := ⟨2, ![10000, 1]⟩
abbrev S2x640000 : Shape := ⟨2, ![2, 640000]⟩
abbrev S11 : Shape := ⟨1, ![11]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x10000 : Shape := ⟨2, ![1, 10000]⟩
abbrev S32x1 : Shape := ⟨2, ![32, 1]⟩
abbrev S64x32 : Shape := ⟨2, ![64, 32]⟩
abbrev S1x64 : Shape := ⟨2, ![1, 64]⟩
abbrev S1x1 : Shape := ⟨2, ![1, 1]⟩
abbrev S32x10000 : Shape := ⟨2, ![32, 10000]⟩
abbrev S64x10000 : Shape := ⟨2, ![64, 10000]⟩

abbrev nBuf : Space → Nat
  | .hbm => 18
  | .vmem => 8
  | .smem => 0
  | _ => 0

abbrev bufTy : (tb : Table) → Fin (tcTables nBuf tb) → BufTy
  | .hbm, ⟨0, _⟩ => ⟨S10000x1, .f32⟩
  | .hbm, ⟨1, _⟩ => ⟨S2x640000, .i32⟩
  | .hbm, ⟨2, _⟩ => ⟨S11, .f32⟩
  | .hbm, ⟨3, _⟩ => ⟨S1x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x10000, .f32⟩
  | .hbm, ⟨10, _⟩ => ⟨S32x1, .f32⟩
  | .hbm, ⟨11, _⟩ => ⟨S32x1, .f32⟩
  | .hbm, ⟨12, _⟩ => ⟨S64x32, .f32⟩
  | .hbm, ⟨13, _⟩ => ⟨S64x1, .f32⟩
  | .hbm, ⟨14, _⟩ => ⟨S1x64, .f32⟩
  | .hbm, ⟨15, _⟩ => ⟨S1x1, .f32⟩
  | .hbm, ⟨16, _⟩ => ⟨S1x10000, .f32⟩
  | .hbm, ⟨17, _⟩ => ⟨S10000x1, .f32⟩
  | .local _ .vmem, ⟨0, _⟩ => ⟨S1x10000, .f32⟩
  | .local _ .vmem, ⟨1, _⟩ => ⟨S32x1, .f32⟩
  | .local _ .vmem, ⟨2, _⟩ => ⟨S32x1, .f32⟩
  | .local _ .vmem, ⟨3, _⟩ => ⟨S64x32, .f32⟩
  | .local _ .vmem, ⟨4, _⟩ => ⟨S64x1, .f32⟩
  | .local _ .vmem, ⟨5, _⟩ => ⟨S1x64, .f32⟩
  | .local _ .vmem, ⟨6, _⟩ => ⟨S1x1, .f32⟩
  | .local _ .vmem, ⟨7, _⟩ => ⟨S1x10000, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S10000x1 : Shape := ⟨2, ![10000, 1]⟩
abbrev S2x640000 : Shape := ⟨2, ![2, 640000]⟩
abbrev S11 : Shape := ⟨1, ![11]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S10000x32 : Shape := ⟨2, ![10000, 32]⟩
abbrev S640000x32 : Shape := ⟨2, ![640000, 32]⟩
abbrev S10000x64 : Shape := ⟨2, ![10000, 64]⟩
abbrev S1x64 : Shape := ⟨2, ![1, 64]⟩
abbrev S640000x64 : Shape := ⟨2, ![640000, 64]⟩
abbrev S1x1 : Shape := ⟨2, ![1, 1]⟩

abbrev nBuf : Space → Nat
  | .hbm => 2442
  | .vmem => 0
  | .smem => 0
  | _ => 0

abbrev hbmTy0_0 (i : Nat) : BufTy := match i % 128 with
  | 0 => ⟨S10000x1, .f32⟩
  | 1 => ⟨S2x640000, .i32⟩
  | 2 => ⟨S11, .f32⟩
  | 3 => ⟨S1x32, .f32⟩
  | 4 => ⟨S32, .f32⟩
  | 5 => ⟨S32x64, .f32⟩
  | 6 => ⟨S64, .f32⟩
  | 7 => ⟨S64x1, .f32⟩
  | 8 => ⟨S1, .f32⟩
  | 9 => ⟨S1x640000, .i32⟩
  | 10 => ⟨S640000, .i32⟩
  | 11 => ⟨S1x640000, .i32⟩
  | 12 => ⟨S640000, .i32⟩
  | 13 => ⟨S_, .f32⟩
  | 14 => ⟨S640000, .f32⟩
  | 15 => ⟨S_, .f32⟩
  | 16 => ⟨S10000, .f32⟩
  | 17 => ⟨S640000x1, .i32⟩
  | 18 => ⟨S10000, .f32⟩
  | 19 => ⟨S_, .f32⟩
  | 20 => ⟨S10000, .f32⟩
  | 21 => ⟨S10000, .i1⟩
  | 22 => ⟨S_, .f32⟩
  | 23 => ⟨S10000, .f32⟩
  | 24 => ⟨S10000, .i1⟩
  | 25 => ⟨S_, .f32⟩
  | 26 => ⟨S_, .f32⟩
  | 27 => ⟨S10000, .f32⟩
  | 28 => ⟨S10000, .f32⟩
  | 29 => ⟨S10000, .f32⟩
  | 30 => ⟨S_, .f32⟩
  | 31 => ⟨S10000, .f32⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000, .f32⟩
  | 55 => ⟨S640000, .f32⟩
  | 56 => ⟨S10000x32, .f32⟩
  | 57 => ⟨S1x32, .f32⟩
  | 58 => ⟨S10000x32, .f32⟩
  | 59 => ⟨S10000x32, .f32⟩
  | 60 => ⟨S_, .f32⟩
  | 61 => ⟨S11, .f32⟩
  | 62 => ⟨S11, .f32⟩
  | 63 => ⟨S640000x1, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000x32, .f32⟩
  | 73 => ⟨S640000x32, .f32⟩
  | 74 => ⟨S640000x32, .f32⟩
  | 75 => ⟨S_, .f32⟩
  | 76 => ⟨S10000x32, .f32⟩
  | 77 => ⟨S640000x1, .i32⟩
  | 78 => ⟨S10000x32, .f32⟩
  | 79 => ⟨S10000x32, .f32⟩
  | 80 => ⟨S640000x1, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x32, .f32⟩
  | 90 => ⟨S640000x32, .f32⟩
  | 91 => ⟨S640000x32, .f32⟩
  | 92 => ⟨S_, .f32⟩
  | 93 => ⟨S10000x32, .f32⟩
  | 94 => ⟨S640000x1, .i32⟩
  | 95 => ⟨S10000x32, .f32⟩
  | 96 => ⟨S10000x32, .f32⟩
  | 97 => ⟨S640000x1, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x32, .f32⟩
  | 107 => ⟨S640000x32, .f32⟩
  | 108 => ⟨S640000x32, .f32⟩
  | 109 => ⟨S_, .f32⟩
  | 110 => ⟨S10000x32, .f32⟩
  | 111 => ⟨S640000x1, .i32⟩
  | 112 => ⟨S10000x32, .f32⟩
  | 113 => ⟨S10000x32, .f32⟩
  | 114 => ⟨S640000x1, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000x32, .f32⟩
  | 124 => ⟨S640000x32, .f32⟩
  | 125 => ⟨S640000x32, .f32⟩
  | 126 => ⟨S_, .f32⟩
  | 127 => ⟨S10000x32, .f32⟩
  | _ => ⟨S10000x1, .f32⟩

abbrev hbmTy0_1 (i : Nat) : BufTy := match i % 128 with
  | 0 => ⟨S640000x1, .i32⟩
  | 1 => ⟨S10000x32, .f32⟩
  | 2 => ⟨S10000x32, .f32⟩
  | 3 => ⟨S640000x1, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x32, .f32⟩
  | 13 => ⟨S640000x32, .f32⟩
  | 14 => ⟨S640000x32, .f32⟩
  | 15 => ⟨S_, .f32⟩
  | 16 => ⟨S10000x32, .f32⟩
  | 17 => ⟨S640000x1, .i32⟩
  | 18 => ⟨S10000x32, .f32⟩
  | 19 => ⟨S10000x32, .f32⟩
  | 20 => ⟨S640000x1, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x32, .f32⟩
  | 30 => ⟨S640000x32, .f32⟩
  | 31 => ⟨S640000x32, .f32⟩
  | 32 => ⟨S_, .f32⟩
  | 33 => ⟨S10000x32, .f32⟩
  | 34 => ⟨S640000x1, .i32⟩
  | 35 => ⟨S10000x32, .f32⟩
  | 36 => ⟨S10000x32, .f32⟩
  | 37 => ⟨S640000x1, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x32, .f32⟩
  | 47 => ⟨S640000x32, .f32⟩
  | 48 => ⟨S640000x32, .f32⟩
  | 49 => ⟨S_, .f32⟩
  | 50 => ⟨S10000x32, .f32⟩
  | 51 => ⟨S640000x1, .i32⟩
  | 52 => ⟨S10000x32, .f32⟩
  | 53 => ⟨S10000x32, .f32⟩
  | 54 => ⟨S640000x1, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x32, .f32⟩
  | 64 => ⟨S640000x32, .f32⟩
  | 65 => ⟨S640000x32, .f32⟩
  | 66 => ⟨S_, .f32⟩
  | 67 => ⟨S10000x32, .f32⟩
  | 68 => ⟨S640000x1, .i32⟩
  | 69 => ⟨S10000x32, .f32⟩
  | 70 => ⟨S10000x32, .f32⟩
  | 71 => ⟨S640000x1, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x32, .f32⟩
  | 81 => ⟨S640000x32, .f32⟩
  | 82 => ⟨S640000x32, .f32⟩
  | 83 => ⟨S_, .f32⟩
  | 84 => ⟨S10000x32, .f32⟩
  | 85 => ⟨S640000x1, .i32⟩
  | 86 => ⟨S10000x32, .f32⟩
  | 87 => ⟨S10000x32, .f32⟩
  | 88 => ⟨S640000x1, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x32, .f32⟩
  | 98 => ⟨S640000x32, .f32⟩
  | 99 => ⟨S640000x32, .f32⟩
  | 100 => ⟨S_, .f32⟩
  | 101 => ⟨S10000x32, .f32⟩
  | 102 => ⟨S640000x1, .i32⟩
  | 103 => ⟨S10000x32, .f32⟩
  | 104 => ⟨S10000x32, .f32⟩
  | 105 => ⟨S1, .f32⟩
  | 106 => ⟨S_, .f32⟩
  | 107 => ⟨S_, .f32⟩
  | 108 => ⟨S_, .f32⟩
  | 109 => ⟨S10000x32, .f32⟩
  | 110 => ⟨S10000x32, .f32⟩
  | 111 => ⟨S640000x1, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x32, .f32⟩
  | 121 => ⟨S640000x32, .f32⟩
  | 122 => ⟨S640000x32, .f32⟩
  | 123 => ⟨S_, .f32⟩
  | 124 => ⟨S10000x32, .f32⟩
  | 125 => ⟨S640000x1, .i32⟩
  | 126 => ⟨S10000x32, .f32⟩
  | 127 => ⟨S10000x32, .f32⟩
  | _ => ⟨S10000x1, .f32⟩

abbrev hbmTy0_2 (i : Nat) : BufTy := match i % 128 with
  | 0 => ⟨S1, .f32⟩
  | 1 => ⟨S_, .f32⟩
  | 2 => ⟨S_, .f32⟩
  | 3 => ⟨S_, .f32⟩
  | 4 => ⟨S10000x32, .f32⟩
  | 5 => ⟨S10000x32, .f32⟩
  | 6 => ⟨S10000x32, .f32⟩
  | 7 => ⟨S640000x1, .f32⟩
  | 8 => ⟨S_, .i32⟩
  | 9 => ⟨S640000, .i32⟩
  | 10 => ⟨S640000, .i1⟩
  | 11 => ⟨S_, .i32⟩
  | 12 => ⟨S640000, .i32⟩
  | 13 => ⟨S640000, .i32⟩
  | 14 => ⟨S640000, .i32⟩
  | 15 => ⟨S640000x1, .i32⟩
  | 16 => ⟨S640000x32, .f32⟩
  | 17 => ⟨S640000x32, .f32⟩
  | 18 => ⟨S640000x32, .f32⟩
  | 19 => ⟨S_, .f32⟩
  | 20 => ⟨S10000x32, .f32⟩
  | 21 => ⟨S640000x1, .i32⟩
  | 22 => ⟨S10000x32, .f32⟩
  | 23 => ⟨S10000x32, .f32⟩
  | 24 => ⟨S640000x1, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x32, .f32⟩
  | 34 => ⟨S640000x32, .f32⟩
  | 35 => ⟨S640000x32, .f32⟩
  | 36 => ⟨S_, .f32⟩
  | 37 => ⟨S10000x32, .f32⟩
  | 38 => ⟨S640000x1, .i32⟩
  | 39 => ⟨S10000x32, .f32⟩
  | 40 => ⟨S10000x32, .f32⟩
  | 41 => ⟨S1, .f32⟩
  | 42 => ⟨S_, .f32⟩
  | 43 => ⟨S_, .f32⟩
  | 44 => ⟨S_, .f32⟩
  | 45 => ⟨S10000x32, .f32⟩
  | 46 => ⟨S10000x32, .f32⟩
  | 47 => ⟨S10000x32, .f32⟩
  | 48 => ⟨S640000x1, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x32, .f32⟩
  | 58 => ⟨S640000x32, .f32⟩
  | 59 => ⟨S640000x32, .f32⟩
  | 60 => ⟨S_, .f32⟩
  | 61 => ⟨S10000x32, .f32⟩
  | 62 => ⟨S640000x1, .i32⟩
  | 63 => ⟨S10000x32, .f32⟩
  | 64 => ⟨S10000x32, .f32⟩
  | 65 => ⟨S640000x1, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x32, .f32⟩
  | 75 => ⟨S640000x32, .f32⟩
  | 76 => ⟨S640000x32, .f32⟩
  | 77 => ⟨S_, .f32⟩
  | 78 => ⟨S10000x32, .f32⟩
  | 79 => ⟨S640000x1, .i32⟩
  | 80 => ⟨S10000x32, .f32⟩
  | 81 => ⟨S10000x32, .f32⟩
  | 82 => ⟨S640000x1, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x32, .f32⟩
  | 92 => ⟨S640000x32, .f32⟩
  | 93 => ⟨S640000x32, .f32⟩
  | 94 => ⟨S_, .f32⟩
  | 95 => ⟨S10000x32, .f32⟩
  | 96 => ⟨S640000x1, .i32⟩
  | 97 => ⟨S10000x32, .f32⟩
  | 98 => ⟨S10000x32, .f32⟩
  | 99 => ⟨S1, .f32⟩
  | 100 => ⟨S_, .f32⟩
  | 101 => ⟨S_, .f32⟩
  | 102 => ⟨S_, .f32⟩
  | 103 => ⟨S10000x32, .f32⟩
  | 104 => ⟨S10000x32, .f32⟩
  | 105 => ⟨S10000x32, .f32⟩
  | 106 => ⟨S640000x1, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x32, .f32⟩
  | 116 => ⟨S640000x32, .f32⟩
  | 117 => ⟨S640000x32, .f32⟩
  | 118 => ⟨S_, .f32⟩
  | 119 => ⟨S10000x32, .f32⟩
  | 120 => ⟨S640000x1, .i32⟩
  | 121 => ⟨S10000x32, .f32⟩
  | 122 => ⟨S10000x32, .f32⟩
  | 123 => ⟨S640000x1, .f32⟩
  | 124 => ⟨S_, .i32⟩
  | 125 => ⟨S640000, .i32⟩
  | 126 => ⟨S640000, .i1⟩
  | 127 => ⟨S_, .i32⟩
  | _ => ⟨S10000x1, .f32⟩

abbrev hbmTy0_3 (i : Nat) : BufTy := match i % 128 with
  | 0 => ⟨S640000, .i32⟩
  | 1 => ⟨S640000, .i32⟩
  | 2 => ⟨S640000, .i32⟩
  | 3 => ⟨S640000x1, .i32⟩
  | 4 => ⟨S640000x32, .f32⟩
  | 5 => ⟨S640000x32, .f32⟩
  | 6 => ⟨S640000x32, .f32⟩
  | 7 => ⟨S_, .f32⟩
  | 8 => ⟨S10000x32, .f32⟩
  | 9 => ⟨S640000x1, .i32⟩
  | 10 => ⟨S10000x32, .f32⟩
  | 11 => ⟨S10000x32, .f32⟩
  | 12 => ⟨S640000x1, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x32, .f32⟩
  | 22 => ⟨S640000x32, .f32⟩
  | 23 => ⟨S640000x32, .f32⟩
  | 24 => ⟨S_, .f32⟩
  | 25 => ⟨S10000x32, .f32⟩
  | 26 => ⟨S640000x1, .i32⟩
  | 27 => ⟨S10000x32, .f32⟩
  | 28 => ⟨S10000x32, .f32⟩
  | 29 => ⟨S640000x1, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x32, .f32⟩
  | 39 => ⟨S640000x32, .f32⟩
  | 40 => ⟨S640000x32, .f32⟩
  | 41 => ⟨S_, .f32⟩
  | 42 => ⟨S10000x32, .f32⟩
  | 43 => ⟨S640000x1, .i32⟩
  | 44 => ⟨S10000x32, .f32⟩
  | 45 => ⟨S10000x32, .f32⟩
  | 46 => ⟨S1, .f32⟩
  | 47 => ⟨S_, .f32⟩
  | 48 => ⟨S_, .f32⟩
  | 49 => ⟨S_, .f32⟩
  | 50 => ⟨S10000x32, .f32⟩
  | 51 => ⟨S10000x32, .f32⟩
  | 52 => ⟨S10000x32, .f32⟩
  | 53 => ⟨S640000x1, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x32, .f32⟩
  | 63 => ⟨S640000x32, .f32⟩
  | 64 => ⟨S640000x32, .f32⟩
  | 65 => ⟨S_, .f32⟩
  | 66 => ⟨S10000x32, .f32⟩
  | 67 => ⟨S640000x1, .i32⟩
  | 68 => ⟨S10000x32, .f32⟩
  | 69 => ⟨S10000x32, .f32⟩
  | 70 => ⟨S640000x1, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x32, .f32⟩
  | 80 => ⟨S640000x32, .f32⟩
  | 81 => ⟨S640000x32, .f32⟩
  | 82 => ⟨S_, .f32⟩
  | 83 => ⟨S10000x32, .f32⟩
  | 84 => ⟨S640000x1, .i32⟩
  | 85 => ⟨S10000x32, .f32⟩
  | 86 => ⟨S10000x32, .f32⟩
  | 87 => ⟨S640000x1, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x32, .f32⟩
  | 97 => ⟨S640000x32, .f32⟩
  | 98 => ⟨S640000x32, .f32⟩
  | 99 => ⟨S_, .f32⟩
  | 100 => ⟨S10000x32, .f32⟩
  | 101 => ⟨S640000x1, .i32⟩
  | 102 => ⟨S10000x32, .f32⟩
  | 103 => ⟨S10000x32, .f32⟩
  | 104 => ⟨S640000x1, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x32, .f32⟩
  | 114 => ⟨S640000x32, .f32⟩
  | 115 => ⟨S640000x32, .f32⟩
  | 116 => ⟨S_, .f32⟩
  | 117 => ⟨S10000x32, .f32⟩
  | 118 => ⟨S640000x1, .i32⟩
  | 119 => ⟨S10000x32, .f32⟩
  | 120 => ⟨S10000x32, .f32⟩
  | 121 => ⟨S640000x1, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S10000x1, .f32⟩

abbrev hbmTy0_4 (i : Nat) : BufTy := match i % 128 with
  | 0 => ⟨S640000, .i32⟩
  | 1 => ⟨S640000x1, .i32⟩
  | 2 => ⟨S640000x32, .f32⟩
  | 3 => ⟨S640000x32, .f32⟩
  | 4 => ⟨S640000x32, .f32⟩
  | 5 => ⟨S_, .f32⟩
  | 6 => ⟨S10000x32, .f32⟩
  | 7 => ⟨S640000x1, .i32⟩
  | 8 => ⟨S10000x32, .f32⟩
  | 9 => ⟨S10000x32, .f32⟩
  | 10 => ⟨S1, .f32⟩
  | 11 => ⟨S_, .f32⟩
  | 12 => ⟨S_, .f32⟩
  | 13 => ⟨S_, .f32⟩
  | 14 => ⟨S10000x32, .f32⟩
  | 15 => ⟨S10000x32, .f32⟩
  | 16 => ⟨S10000x32, .f32⟩
  | 17 => ⟨S640000x1, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x32, .f32⟩
  | 27 => ⟨S640000x32, .f32⟩
  | 28 => ⟨S640000x32, .f32⟩
  | 29 => ⟨S_, .f32⟩
  | 30 => ⟨S10000x32, .f32⟩
  | 31 => ⟨S640000x1, .i32⟩
  | 32 => ⟨S10000x32, .f32⟩
  | 33 => ⟨S10000x32, .f32⟩
  | 34 => ⟨S640000x1, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x32, .f32⟩
  | 44 => ⟨S640000x32, .f32⟩
  | 45 => ⟨S640000x32, .f32⟩
  | 46 => ⟨S_, .f32⟩
  | 47 => ⟨S10000x32, .f32⟩
  | 48 => ⟨S640000x1, .i32⟩
  | 49 => ⟨S10000x32, .f32⟩
  | 50 => ⟨S10000x32, .f32⟩
  | 51 => ⟨S640000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x32, .f32⟩
  | 61 => ⟨S640000x32, .f32⟩
  | 62 => ⟨S640000x32, .f32⟩
  | 63 => ⟨S_, .f32⟩
  | 64 => ⟨S10000x32, .f32⟩
  | 65 => ⟨S640000x1, .i32⟩
  | 66 => ⟨S10000x32, .f32⟩
  | 67 => ⟨S10000x32, .f32⟩
  | 68 => ⟨S640000x1, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x32, .f32⟩
  | 78 => ⟨S640000x32, .f32⟩
  | 79 => ⟨S640000x32, .f32⟩
  | 80 => ⟨S_, .f32⟩
  | 81 => ⟨S10000x32, .f32⟩
  | 82 => ⟨S640000x1, .i32⟩
  | 83 => ⟨S10000x32, .f32⟩
  | 84 => ⟨S10000x32, .f32⟩
  | 85 => ⟨S640000x1, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x32, .f32⟩
  | 95 => ⟨S640000x32, .f32⟩
  | 96 => ⟨S640000x32, .f32⟩
  | 97 => ⟨S_, .f32⟩
  | 98 => ⟨S10000x32, .f32⟩
  | 99 => ⟨S640000x1, .i32⟩
  | 100 => ⟨S10000x32, .f32⟩
  | 101 => ⟨S10000x32, .f32⟩
  | 102 => ⟨S640000x1, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x32, .f32⟩
  | 112 => ⟨S640000x32, .f32⟩
  | 113 => ⟨S640000x32, .f32⟩
  | 114 => ⟨S_, .f32⟩
  | 115 => ⟨S10000x32, .f32⟩
  | 116 => ⟨S640000x1, .i32⟩
  | 117 => ⟨S10000x32, .f32⟩
  | 118 => ⟨S10000x32, .f32⟩
  | 119 => ⟨S1, .f32⟩
  | 120 => ⟨S_, .f32⟩
  | 121 => ⟨S_, .f32⟩
  | 122 => ⟨S_, .f32⟩
  | 123 => ⟨S10000x32, .f32⟩
  | 124 => ⟨S10000x32, .f32⟩
  | 125 => ⟨S10000x32, .f32⟩
  | 126 => ⟨S640000x1, .f32⟩
  | 127 => ⟨S_, .i32⟩
  | _ => ⟨S10000x1, .f32⟩

abbrev hbmTy0_5 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x32, .f32⟩
  | 8 => ⟨S640000x32, .f32⟩
  | 9 => ⟨S640000x32, .f32⟩
  | 10 => ⟨S_, .f32⟩
  | 11 => ⟨S10000x32, .f32⟩
  | 12 => ⟨S640000x1, .i32⟩
  | 13 => ⟨S10000x32, .f32⟩
  | 14 => ⟨S10000x32, .f32⟩
  | 15 => ⟨S640000x1, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x32, .f32⟩
  | 25 => ⟨S640000x32, .f32⟩
  | 26 => ⟨S640000x32, .f32⟩
  | 27 => ⟨S_, .f32⟩
  | 28 => ⟨S10000x32, .f32⟩
  | 29 => ⟨S640000x1, .i32⟩
  | 30 => ⟨S10000x32, .f32⟩
  | 31 => ⟨S10000x32, .f32⟩
  | 32 => ⟨S640000x1, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x32, .f32⟩
  | 42 => ⟨S640000x32, .f32⟩
  | 43 => ⟨S640000x32, .f32⟩
  | 44 => ⟨S_, .f32⟩
  | 45 => ⟨S10000x32, .f32⟩
  | 46 => ⟨S640000x1, .i32⟩
  | 47 => ⟨S10000x32, .f32⟩
  | 48 => ⟨S10000x32, .f32⟩
  | 49 => ⟨S640000x1, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x32, .f32⟩
  | 59 => ⟨S640000x32, .f32⟩
  | 60 => ⟨S640000x32, .f32⟩
  | 61 => ⟨S_, .f32⟩
  | 62 => ⟨S10000x32, .f32⟩
  | 63 => ⟨S640000x1, .i32⟩
  | 64 => ⟨S10000x32, .f32⟩
  | 65 => ⟨S10000x32, .f32⟩
  | 66 => ⟨S640000x1, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x32, .f32⟩
  | 76 => ⟨S640000x32, .f32⟩
  | 77 => ⟨S640000x32, .f32⟩
  | 78 => ⟨S_, .f32⟩
  | 79 => ⟨S10000x32, .f32⟩
  | 80 => ⟨S640000x1, .i32⟩
  | 81 => ⟨S10000x32, .f32⟩
  | 82 => ⟨S10000x32, .f32⟩
  | 83 => ⟨S640000x1, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x32, .f32⟩
  | 93 => ⟨S640000x32, .f32⟩
  | 94 => ⟨S640000x32, .f32⟩
  | 95 => ⟨S_, .f32⟩
  | 96 => ⟨S10000x32, .f32⟩
  | 97 => ⟨S640000x1, .i32⟩
  | 98 => ⟨S10000x32, .f32⟩
  | 99 => ⟨S10000x32, .f32⟩
  | 100 => ⟨S640000x1, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x32, .f32⟩
  | 110 => ⟨S640000x32, .f32⟩
  | 111 => ⟨S640000x32, .f32⟩
  | 112 => ⟨S_, .f32⟩
  | 113 => ⟨S10000x32, .f32⟩
  | 114 => ⟨S640000x1, .i32⟩
  | 115 => ⟨S10000x32, .f32⟩
  | 116 => ⟨S10000x32, .f32⟩
  | 117 => ⟨S1, .f32⟩
  | 118 => ⟨S_, .f32⟩
  | 119 => ⟨S_, .f32⟩
  | 120 => ⟨S_, .f32⟩
  | 121 => ⟨S10000x32, .f32⟩
  | 122 => ⟨S10000x32, .f32⟩
  | 123 => ⟨S10000x32, .f32⟩
  | 124 => ⟨S640000x1, .f32⟩
  | 125 => ⟨S_, .i32⟩
  | 126 => ⟨S640000, .i32⟩
  | 127 => ⟨S640000, .i1⟩
  | _ => ⟨S10000x1, .f32⟩

abbrev hbmTy0_6 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000x32, .f32⟩
  | 6 => ⟨S640000x32, .f32⟩
  | 7 => ⟨S640000x32, .f32⟩
  | 8 => ⟨S_, .f32⟩
  | 9 => ⟨S10000x32, .f32⟩
  | 10 => ⟨S640000x1, .i32⟩
  | 11 => ⟨S10000x32, .f32⟩
  | 12 => ⟨S10000x32, .f32⟩
  | 13 => ⟨S640000x1, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x32, .f32⟩
  | 23 => ⟨S640000x32, .f32⟩
  | 24 => ⟨S640000x32, .f32⟩
  | 25 => ⟨S_, .f32⟩
  | 26 => ⟨S10000x32, .f32⟩
  | 27 => ⟨S640000x1, .i32⟩
  | 28 => ⟨S10000x32, .f32⟩
  | 29 => ⟨S10000x32, .f32⟩
  | 30 => ⟨S640000x1, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x32, .f32⟩
  | 40 => ⟨S640000x32, .f32⟩
  | 41 => ⟨S640000x32, .f32⟩
  | 42 => ⟨S_, .f32⟩
  | 43 => ⟨S10000x32, .f32⟩
  | 44 => ⟨S640000x1, .i32⟩
  | 45 => ⟨S10000x32, .f32⟩
  | 46 => ⟨S10000x32, .f32⟩
  | 47 => ⟨S640000x1, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S640000x32, .f32⟩
  | 57 => ⟨S640000x32, .f32⟩
  | 58 => ⟨S640000x32, .f32⟩
  | 59 => ⟨S_, .f32⟩
  | 60 => ⟨S10000x32, .f32⟩
  | 61 => ⟨S640000x1, .i32⟩
  | 62 => ⟨S10000x32, .f32⟩
  | 63 => ⟨S10000x32, .f32⟩
  | 64 => ⟨S640000x1, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x32, .f32⟩
  | 74 => ⟨S640000x32, .f32⟩
  | 75 => ⟨S640000x32, .f32⟩
  | 76 => ⟨S_, .f32⟩
  | 77 => ⟨S10000x32, .f32⟩
  | 78 => ⟨S640000x1, .i32⟩
  | 79 => ⟨S10000x32, .f32⟩
  | 80 => ⟨S10000x32, .f32⟩
  | 81 => ⟨S640000x1, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x32, .f32⟩
  | 91 => ⟨S640000x32, .f32⟩
  | 92 => ⟨S640000x32, .f32⟩
  | 93 => ⟨S_, .f32⟩
  | 94 => ⟨S10000x32, .f32⟩
  | 95 => ⟨S640000x1, .i32⟩
  | 96 => ⟨S10000x32, .f32⟩
  | 97 => ⟨S10000x32, .f32⟩
  | 98 => ⟨S640000x1, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x32, .f32⟩
  | 108 => ⟨S640000x32, .f32⟩
  | 109 => ⟨S640000x32, .f32⟩
  | 110 => ⟨S_, .f32⟩
  | 111 => ⟨S10000x32, .f32⟩
  | 112 => ⟨S640000x1, .i32⟩
  | 113 => ⟨S10000x32, .f32⟩
  | 114 => ⟨S10000x32, .f32⟩
  | 115 => ⟨S640000x1, .f32⟩
  | 116 => ⟨S_, .i32⟩
  | 117 => ⟨S640000, .i32⟩
  | 118 => ⟨S640000, .i1⟩
  | 119 => ⟨S_, .i32⟩
  | 120 => ⟨S640000, .i32⟩
  | 121 => ⟨S640000, .i32⟩
  | 122 => ⟨S640000, .i32⟩
  | 123 => ⟨S640000x1, .i32⟩
  | 124 => ⟨S640000x32, .f32⟩
  | 125 => ⟨S640000x32, .f32⟩
  | 126 => ⟨S640000x32, .f32⟩
  | 127 => ⟨S_, .f32⟩
  | _ => ⟨S10000x1, .f32⟩

abbrev hbmTy0_7 (i : Nat) : BufTy := match i % 128 with
  | 0 => ⟨S10000x32, .f32⟩
  | 1 => ⟨S640000x1, .i32⟩
  | 2 => ⟨S10000x32, .f32⟩
  | 3 => ⟨S10000x32, .f32⟩
  | 4 => ⟨S1, .f32⟩
  | 5 => ⟨S_, .f32⟩
  | 6 => ⟨S_, .f32⟩
  | 7 => ⟨S_, .f32⟩
  | 8 => ⟨S10000x32, .f32⟩
  | 9 => ⟨S10000x32, .f32⟩
  | 10 => ⟨S10000x32, .f32⟩
  | 11 => ⟨S640000x1, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x32, .f32⟩
  | 21 => ⟨S640000x32, .f32⟩
  | 22 => ⟨S640000x32, .f32⟩
  | 23 => ⟨S_, .f32⟩
  | 24 => ⟨S10000x32, .f32⟩
  | 25 => ⟨S640000x1, .i32⟩
  | 26 => ⟨S10000x32, .f32⟩
  | 27 => ⟨S10000x32, .f32⟩
  | 28 => ⟨S640000x1, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x32, .f32⟩
  | 38 => ⟨S640000x32, .f32⟩
  | 39 => ⟨S640000x32, .f32⟩
  | 40 => ⟨S_, .f32⟩
  | 41 => ⟨S10000x32, .f32⟩
  | 42 => ⟨S640000x1, .i32⟩
  | 43 => ⟨S10000x32, .f32⟩
  | 44 => ⟨S10000x32, .f32⟩
  | 45 => ⟨S640000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x32, .f32⟩
  | 55 => ⟨S640000x32, .f32⟩
  | 56 => ⟨S640000x32, .f32⟩
  | 57 => ⟨S_, .f32⟩
  | 58 => ⟨S10000x32, .f32⟩
  | 59 => ⟨S640000x1, .i32⟩
  | 60 => ⟨S10000x32, .f32⟩
  | 61 => ⟨S10000x32, .f32⟩
  | 62 => ⟨S640000x1, .f32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000x32, .f32⟩
  | 72 => ⟨S640000x32, .f32⟩
  | 73 => ⟨S640000x32, .f32⟩
  | 74 => ⟨S_, .f32⟩
  | 75 => ⟨S10000x32, .f32⟩
  | 76 => ⟨S640000x1, .i32⟩
  | 77 => ⟨S10000x32, .f32⟩
  | 78 => ⟨S10000x32, .f32⟩
  | 79 => ⟨S640000x1, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x32, .f32⟩
  | 89 => ⟨S640000x32, .f32⟩
  | 90 => ⟨S640000x32, .f32⟩
  | 91 => ⟨S_, .f32⟩
  | 92 => ⟨S10000x32, .f32⟩
  | 93 => ⟨S640000x1, .i32⟩
  | 94 => ⟨S10000x32, .f32⟩
  | 95 => ⟨S10000x32, .f32⟩
  | 96 => ⟨S640000x1, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x32, .f32⟩
  | 106 => ⟨S640000x32, .f32⟩
  | 107 => ⟨S640000x32, .f32⟩
  | 108 => ⟨S_, .f32⟩
  | 109 => ⟨S10000x32, .f32⟩
  | 110 => ⟨S640000x1, .i32⟩
  | 111 => ⟨S10000x32, .f32⟩
  | 112 => ⟨S10000x32, .f32⟩
  | 113 => ⟨S640000x1, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x32, .f32⟩
  | 123 => ⟨S640000x32, .f32⟩
  | 124 => ⟨S640000x32, .f32⟩
  | 125 => ⟨S_, .f32⟩
  | 126 => ⟨S10000x32, .f32⟩
  | 127 => ⟨S640000x1, .i32⟩
  | _ => ⟨S10000x1, .f32⟩

abbrev hbmTy0_8 (i : Nat) : BufTy := match i % 128 with
  | 0 => ⟨S10000x32, .f32⟩
  | 1 => ⟨S10000x32, .f32⟩
  | 2 => ⟨S640000x1, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x32, .f32⟩
  | 12 => ⟨S640000x32, .f32⟩
  | 13 => ⟨S640000x32, .f32⟩
  | 14 => ⟨S_, .f32⟩
  | 15 => ⟨S10000x32, .f32⟩
  | 16 => ⟨S640000x1, .i32⟩
  | 17 => ⟨S10000x32, .f32⟩
  | 18 => ⟨S10000x32, .f32⟩
  | 19 => ⟨S640000x1, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x32, .f32⟩
  | 29 => ⟨S640000x32, .f32⟩
  | 30 => ⟨S640000x32, .f32⟩
  | 31 => ⟨S_, .f32⟩
  | 32 => ⟨S10000x32, .f32⟩
  | 33 => ⟨S640000x1, .i32⟩
  | 34 => ⟨S10000x32, .f32⟩
  | 35 => ⟨S10000x32, .f32⟩
  | 36 => ⟨S1, .f32⟩
  | 37 => ⟨S_, .f32⟩
  | 38 => ⟨S_, .f32⟩
  | 39 => ⟨S_, .f32⟩
  | 40 => ⟨S10000x32, .f32⟩
  | 41 => ⟨S10000x32, .f32⟩
  | 42 => ⟨S10000x32, .f32⟩
  | 43 => ⟨S640000x1, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x32, .f32⟩
  | 53 => ⟨S640000x32, .f32⟩
  | 54 => ⟨S640000x32, .f32⟩
  | 55 => ⟨S_, .f32⟩
  | 56 => ⟨S10000x32, .f32⟩
  | 57 => ⟨S640000x1, .i32⟩
  | 58 => ⟨S10000x32, .f32⟩
  | 59 => ⟨S10000x32, .f32⟩
  | 60 => ⟨S640000x1, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x32, .f32⟩
  | 70 => ⟨S640000x32, .f32⟩
  | 71 => ⟨S640000x32, .f32⟩
  | 72 => ⟨S_, .f32⟩
  | 73 => ⟨S10000x32, .f32⟩
  | 74 => ⟨S640000x1, .i32⟩
  | 75 => ⟨S10000x32, .f32⟩
  | 76 => ⟨S10000x32, .f32⟩
  | 77 => ⟨S640000x1, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x32, .f32⟩
  | 87 => ⟨S640000x32, .f32⟩
  | 88 => ⟨S640000x32, .f32⟩
  | 89 => ⟨S_, .f32⟩
  | 90 => ⟨S10000x32, .f32⟩
  | 91 => ⟨S640000x1, .i32⟩
  | 92 => ⟨S10000x32, .f32⟩
  | 93 => ⟨S10000x32, .f32⟩
  | 94 => ⟨S640000x1, .f32⟩
  | 95 => ⟨S_, .i32⟩
  | 96 => ⟨S640000, .i32⟩
  | 97 => ⟨S640000, .i1⟩
  | 98 => ⟨S_, .i32⟩
  | 99 => ⟨S640000, .i32⟩
  | 100 => ⟨S640000, .i32⟩
  | 101 => ⟨S640000, .i32⟩
  | 102 => ⟨S640000x1, .i32⟩
  | 103 => ⟨S640000x32, .f32⟩
  | 104 => ⟨S640000x32, .f32⟩
  | 105 => ⟨S640000x32, .f32⟩
  | 106 => ⟨S_, .f32⟩
  | 107 => ⟨S10000x32, .f32⟩
  | 108 => ⟨S640000x1, .i32⟩
  | 109 => ⟨S10000x32, .f32⟩
  | 110 => ⟨S10000x32, .f32⟩
  | 111 => ⟨S640000x1, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x32, .f32⟩
  | 121 => ⟨S640000x32, .f32⟩
  | 122 => ⟨S640000x32, .f32⟩
  | 123 => ⟨S_, .f32⟩
  | 124 => ⟨S10000x32, .f32⟩
  | 125 => ⟨S640000x1, .i32⟩
  | 126 => ⟨S10000x32, .f32⟩
  | 127 => ⟨S10000x32, .f32⟩
  | _ => ⟨S10000x1, .f32⟩

abbrev hbmTy0_9 (i : Nat) : BufTy := match i % 128 with
  | 0 => ⟨S640000x1, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x32, .f32⟩
  | 10 => ⟨S640000x32, .f32⟩
  | 11 => ⟨S640000x32, .f32⟩
  | 12 => ⟨S_, .f32⟩
  | 13 => ⟨S10000x32, .f32⟩
  | 14 => ⟨S640000x1, .i32⟩
  | 15 => ⟨S10000x32, .f32⟩
  | 16 => ⟨S10000x32, .f32⟩
  | 17 => ⟨S640000x1, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x32, .f32⟩
  | 27 => ⟨S640000x32, .f32⟩
  | 28 => ⟨S640000x32, .f32⟩
  | 29 => ⟨S_, .f32⟩
  | 30 => ⟨S10000x32, .f32⟩
  | 31 => ⟨S640000x1, .i32⟩
  | 32 => ⟨S10000x32, .f32⟩
  | 33 => ⟨S10000x32, .f32⟩
  | 34 => ⟨S640000x1, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x32, .f32⟩
  | 44 => ⟨S640000x32, .f32⟩
  | 45 => ⟨S640000x32, .f32⟩
  | 46 => ⟨S_, .f32⟩
  | 47 => ⟨S10000x32, .f32⟩
  | 48 => ⟨S640000x1, .i32⟩
  | 49 => ⟨S10000x32, .f32⟩
  | 50 => ⟨S10000x32, .f32⟩
  | 51 => ⟨S640000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x32, .f32⟩
  | 61 => ⟨S640000x32, .f32⟩
  | 62 => ⟨S640000x32, .f32⟩
  | 63 => ⟨S_, .f32⟩
  | 64 => ⟨S10000x32, .f32⟩
  | 65 => ⟨S640000x1, .i32⟩
  | 66 => ⟨S10000x32, .f32⟩
  | 67 => ⟨S10000x32, .f32⟩
  | 68 => ⟨S640000x1, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x32, .f32⟩
  | 78 => ⟨S640000x32, .f32⟩
  | 79 => ⟨S640000x32, .f32⟩
  | 80 => ⟨S_, .f32⟩
  | 81 => ⟨S10000x32, .f32⟩
  | 82 => ⟨S640000x1, .i32⟩
  | 83 => ⟨S10000x32, .f32⟩
  | 84 => ⟨S10000x32, .f32⟩
  | 85 => ⟨S1, .f32⟩
  | 86 => ⟨S_, .f32⟩
  | 87 => ⟨S_, .f32⟩
  | 88 => ⟨S_, .f32⟩
  | 89 => ⟨S10000x32, .f32⟩
  | 90 => ⟨S10000x32, .f32⟩
  | 91 => ⟨S10000x32, .f32⟩
  | 92 => ⟨S_, .f32⟩
  | 93 => ⟨S10000x32, .f32⟩
  | 94 => ⟨S10000x32, .f32⟩
  | 95 => ⟨S10000x64, .f32⟩
  | 96 => ⟨S1x64, .f32⟩
  | 97 => ⟨S10000x64, .f32⟩
  | 98 => ⟨S10000x64, .f32⟩
  | 99 => ⟨S_, .f32⟩
  | 100 => ⟨S11, .f32⟩
  | 101 => ⟨S11, .f32⟩
  | 102 => ⟨S640000x1, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x64, .f32⟩
  | 112 => ⟨S640000x64, .f32⟩
  | 113 => ⟨S640000x64, .f32⟩
  | 114 => ⟨S_, .f32⟩
  | 115 => ⟨S10000x64, .f32⟩
  | 116 => ⟨S640000x1, .i32⟩
  | 117 => ⟨S10000x64, .f32⟩
  | 118 => ⟨S10000x64, .f32⟩
  | 119 => ⟨S640000x1, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S10000x1, .f32⟩

abbrev hbmTy0_10 (i : Nat) : BufTy := match i % 128 with
  | 0 => ⟨S640000x64, .f32⟩
  | 1 => ⟨S640000x64, .f32⟩
  | 2 => ⟨S640000x64, .f32⟩
  | 3 => ⟨S_, .f32⟩
  | 4 => ⟨S10000x64, .f32⟩
  | 5 => ⟨S640000x1, .i32⟩
  | 6 => ⟨S10000x64, .f32⟩
  | 7 => ⟨S10000x64, .f32⟩
  | 8 => ⟨S640000x1, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000x64, .f32⟩
  | 18 => ⟨S640000x64, .f32⟩
  | 19 => ⟨S640000x64, .f32⟩
  | 20 => ⟨S_, .f32⟩
  | 21 => ⟨S10000x64, .f32⟩
  | 22 => ⟨S640000x1, .i32⟩
  | 23 => ⟨S10000x64, .f32⟩
  | 24 => ⟨S10000x64, .f32⟩
  | 25 => ⟨S640000x1, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x64, .f32⟩
  | 35 => ⟨S640000x64, .f32⟩
  | 36 => ⟨S640000x64, .f32⟩
  | 37 => ⟨S_, .f32⟩
  | 38 => ⟨S10000x64, .f32⟩
  | 39 => ⟨S640000x1, .i32⟩
  | 40 => ⟨S10000x64, .f32⟩
  | 41 => ⟨S10000x64, .f32⟩
  | 42 => ⟨S640000x1, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x64, .f32⟩
  | 52 => ⟨S640000x64, .f32⟩
  | 53 => ⟨S640000x64, .f32⟩
  | 54 => ⟨S_, .f32⟩
  | 55 => ⟨S10000x64, .f32⟩
  | 56 => ⟨S640000x1, .i32⟩
  | 57 => ⟨S10000x64, .f32⟩
  | 58 => ⟨S10000x64, .f32⟩
  | 59 => ⟨S640000x1, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x64, .f32⟩
  | 69 => ⟨S640000x64, .f32⟩
  | 70 => ⟨S640000x64, .f32⟩
  | 71 => ⟨S_, .f32⟩
  | 72 => ⟨S10000x64, .f32⟩
  | 73 => ⟨S640000x1, .i32⟩
  | 74 => ⟨S10000x64, .f32⟩
  | 75 => ⟨S10000x64, .f32⟩
  | 76 => ⟨S640000x1, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x64, .f32⟩
  | 86 => ⟨S640000x64, .f32⟩
  | 87 => ⟨S640000x64, .f32⟩
  | 88 => ⟨S_, .f32⟩
  | 89 => ⟨S10000x64, .f32⟩
  | 90 => ⟨S640000x1, .i32⟩
  | 91 => ⟨S10000x64, .f32⟩
  | 92 => ⟨S10000x64, .f32⟩
  | 93 => ⟨S640000x1, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x64, .f32⟩
  | 103 => ⟨S640000x64, .f32⟩
  | 104 => ⟨S640000x64, .f32⟩
  | 105 => ⟨S_, .f32⟩
  | 106 => ⟨S10000x64, .f32⟩
  | 107 => ⟨S640000x1, .i32⟩
  | 108 => ⟨S10000x64, .f32⟩
  | 109 => ⟨S10000x64, .f32⟩
  | 110 => ⟨S640000x1, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x64, .f32⟩
  | 120 => ⟨S640000x64, .f32⟩
  | 121 => ⟨S640000x64, .f32⟩
  | 122 => ⟨S_, .f32⟩
  | 123 => ⟨S10000x64, .f32⟩
  | 124 => ⟨S640000x1, .i32⟩
  | 125 => ⟨S10000x64, .f32⟩
  | 126 => ⟨S10000x64, .f32⟩
  | 127 => ⟨S640000x1, .f32⟩
  | _ => ⟨S10000x1, .f32⟩

abbrev hbmTy0_11 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S640000x64, .f32⟩
  | 9 => ⟨S640000x64, .f32⟩
  | 10 => ⟨S640000x64, .f32⟩
  | 11 => ⟨S_, .f32⟩
  | 12 => ⟨S10000x64, .f32⟩
  | 13 => ⟨S640000x1, .i32⟩
  | 14 => ⟨S10000x64, .f32⟩
  | 15 => ⟨S10000x64, .f32⟩
  | 16 => ⟨S1, .f32⟩
  | 17 => ⟨S_, .f32⟩
  | 18 => ⟨S_, .f32⟩
  | 19 => ⟨S_, .f32⟩
  | 20 => ⟨S10000x64, .f32⟩
  | 21 => ⟨S10000x64, .f32⟩
  | 22 => ⟨S640000x1, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x64, .f32⟩
  | 32 => ⟨S640000x64, .f32⟩
  | 33 => ⟨S640000x64, .f32⟩
  | 34 => ⟨S_, .f32⟩
  | 35 => ⟨S10000x64, .f32⟩
  | 36 => ⟨S640000x1, .i32⟩
  | 37 => ⟨S10000x64, .f32⟩
  | 38 => ⟨S10000x64, .f32⟩
  | 39 => ⟨S1, .f32⟩
  | 40 => ⟨S_, .f32⟩
  | 41 => ⟨S_, .f32⟩
  | 42 => ⟨S_, .f32⟩
  | 43 => ⟨S10000x64, .f32⟩
  | 44 => ⟨S10000x64, .f32⟩
  | 45 => ⟨S10000x64, .f32⟩
  | 46 => ⟨S640000x1, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x64, .f32⟩
  | 56 => ⟨S640000x64, .f32⟩
  | 57 => ⟨S640000x64, .f32⟩
  | 58 => ⟨S_, .f32⟩
  | 59 => ⟨S10000x64, .f32⟩
  | 60 => ⟨S640000x1, .i32⟩
  | 61 => ⟨S10000x64, .f32⟩
  | 62 => ⟨S10000x64, .f32⟩
  | 63 => ⟨S640000x1, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000x64, .f32⟩
  | 73 => ⟨S640000x64, .f32⟩
  | 74 => ⟨S640000x64, .f32⟩
  | 75 => ⟨S_, .f32⟩
  | 76 => ⟨S10000x64, .f32⟩
  | 77 => ⟨S640000x1, .i32⟩
  | 78 => ⟨S10000x64, .f32⟩
  | 79 => ⟨S10000x64, .f32⟩
  | 80 => ⟨S1, .f32⟩
  | 81 => ⟨S_, .f32⟩
  | 82 => ⟨S_, .f32⟩
  | 83 => ⟨S_, .f32⟩
  | 84 => ⟨S10000x64, .f32⟩
  | 85 => ⟨S10000x64, .f32⟩
  | 86 => ⟨S10000x64, .f32⟩
  | 87 => ⟨S640000x1, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x64, .f32⟩
  | 97 => ⟨S640000x64, .f32⟩
  | 98 => ⟨S640000x64, .f32⟩
  | 99 => ⟨S_, .f32⟩
  | 100 => ⟨S10000x64, .f32⟩
  | 101 => ⟨S640000x1, .i32⟩
  | 102 => ⟨S10000x64, .f32⟩
  | 103 => ⟨S10000x64, .f32⟩
  | 104 => ⟨S640000x1, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x64, .f32⟩
  | 114 => ⟨S640000x64, .f32⟩
  | 115 => ⟨S640000x64, .f32⟩
  | 116 => ⟨S_, .f32⟩
  | 117 => ⟨S10000x64, .f32⟩
  | 118 => ⟨S640000x1, .i32⟩
  | 119 => ⟨S10000x64, .f32⟩
  | 120 => ⟨S10000x64, .f32⟩
  | 121 => ⟨S640000x1, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S10000x1, .f32⟩

abbrev hbmTy0_12 (i : Nat) : BufTy := match i % 128 with
  | 0 => ⟨S640000, .i32⟩
  | 1 => ⟨S640000x1, .i32⟩
  | 2 => ⟨S640000x64, .f32⟩
  | 3 => ⟨S640000x64, .f32⟩
  | 4 => ⟨S640000x64, .f32⟩
  | 5 => ⟨S_, .f32⟩
  | 6 => ⟨S10000x64, .f32⟩
  | 7 => ⟨S640000x1, .i32⟩
  | 8 => ⟨S10000x64, .f32⟩
  | 9 => ⟨S10000x64, .f32⟩
  | 10 => ⟨S1, .f32⟩
  | 11 => ⟨S_, .f32⟩
  | 12 => ⟨S_, .f32⟩
  | 13 => ⟨S_, .f32⟩
  | 14 => ⟨S10000x64, .f32⟩
  | 15 => ⟨S10000x64, .f32⟩
  | 16 => ⟨S10000x64, .f32⟩
  | 17 => ⟨S640000x1, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x64, .f32⟩
  | 27 => ⟨S640000x64, .f32⟩
  | 28 => ⟨S640000x64, .f32⟩
  | 29 => ⟨S_, .f32⟩
  | 30 => ⟨S10000x64, .f32⟩
  | 31 => ⟨S640000x1, .i32⟩
  | 32 => ⟨S10000x64, .f32⟩
  | 33 => ⟨S10000x64, .f32⟩
  | 34 => ⟨S640000x1, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x64, .f32⟩
  | 44 => ⟨S640000x64, .f32⟩
  | 45 => ⟨S640000x64, .f32⟩
  | 46 => ⟨S_, .f32⟩
  | 47 => ⟨S10000x64, .f32⟩
  | 48 => ⟨S640000x1, .i32⟩
  | 49 => ⟨S10000x64, .f32⟩
  | 50 => ⟨S10000x64, .f32⟩
  | 51 => ⟨S640000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x64, .f32⟩
  | 61 => ⟨S640000x64, .f32⟩
  | 62 => ⟨S640000x64, .f32⟩
  | 63 => ⟨S_, .f32⟩
  | 64 => ⟨S10000x64, .f32⟩
  | 65 => ⟨S640000x1, .i32⟩
  | 66 => ⟨S10000x64, .f32⟩
  | 67 => ⟨S10000x64, .f32⟩
  | 68 => ⟨S640000x1, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x64, .f32⟩
  | 78 => ⟨S640000x64, .f32⟩
  | 79 => ⟨S640000x64, .f32⟩
  | 80 => ⟨S_, .f32⟩
  | 81 => ⟨S10000x64, .f32⟩
  | 82 => ⟨S640000x1, .i32⟩
  | 83 => ⟨S10000x64, .f32⟩
  | 84 => ⟨S10000x64, .f32⟩
  | 85 => ⟨S1, .f32⟩
  | 86 => ⟨S_, .f32⟩
  | 87 => ⟨S_, .f32⟩
  | 88 => ⟨S_, .f32⟩
  | 89 => ⟨S10000x64, .f32⟩
  | 90 => ⟨S10000x64, .f32⟩
  | 91 => ⟨S10000x64, .f32⟩
  | 92 => ⟨S640000x1, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x64, .f32⟩
  | 102 => ⟨S640000x64, .f32⟩
  | 103 => ⟨S640000x64, .f32⟩
  | 104 => ⟨S_, .f32⟩
  | 105 => ⟨S10000x64, .f32⟩
  | 106 => ⟨S640000x1, .i32⟩
  | 107 => ⟨S10000x64, .f32⟩
  | 108 => ⟨S10000x64, .f32⟩
  | 109 => ⟨S640000x1, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x64, .f32⟩
  | 119 => ⟨S640000x64, .f32⟩
  | 120 => ⟨S640000x64, .f32⟩
  | 121 => ⟨S_, .f32⟩
  | 122 => ⟨S10000x64, .f32⟩
  | 123 => ⟨S640000x1, .i32⟩
  | 124 => ⟨S10000x64, .f32⟩
  | 125 => ⟨S10000x64, .f32⟩
  | 126 => ⟨S640000x1, .f32⟩
  | 127 => ⟨S_, .i32⟩
  | _ => ⟨S10000x1, .f32⟩

abbrev hbmTy0_13 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x64, .f32⟩
  | 8 => ⟨S640000x64, .f32⟩
  | 9 => ⟨S640000x64, .f32⟩
  | 10 => ⟨S_, .f32⟩
  | 11 => ⟨S10000x64, .f32⟩
  | 12 => ⟨S640000x1, .i32⟩
  | 13 => ⟨S10000x64, .f32⟩
  | 14 => ⟨S10000x64, .f32⟩
  | 15 => ⟨S640000x1, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x64, .f32⟩
  | 25 => ⟨S640000x64, .f32⟩
  | 26 => ⟨S640000x64, .f32⟩
  | 27 => ⟨S_, .f32⟩
  | 28 => ⟨S10000x64, .f32⟩
  | 29 => ⟨S640000x1, .i32⟩
  | 30 => ⟨S10000x64, .f32⟩
  | 31 => ⟨S10000x64, .f32⟩
  | 32 => ⟨S640000x1, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x64, .f32⟩
  | 42 => ⟨S640000x64, .f32⟩
  | 43 => ⟨S640000x64, .f32⟩
  | 44 => ⟨S_, .f32⟩
  | 45 => ⟨S10000x64, .f32⟩
  | 46 => ⟨S640000x1, .i32⟩
  | 47 => ⟨S10000x64, .f32⟩
  | 48 => ⟨S10000x64, .f32⟩
  | 49 => ⟨S1, .f32⟩
  | 50 => ⟨S_, .f32⟩
  | 51 => ⟨S_, .f32⟩
  | 52 => ⟨S_, .f32⟩
  | 53 => ⟨S10000x64, .f32⟩
  | 54 => ⟨S10000x64, .f32⟩
  | 55 => ⟨S10000x64, .f32⟩
  | 56 => ⟨S640000x1, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x64, .f32⟩
  | 66 => ⟨S640000x64, .f32⟩
  | 67 => ⟨S640000x64, .f32⟩
  | 68 => ⟨S_, .f32⟩
  | 69 => ⟨S10000x64, .f32⟩
  | 70 => ⟨S640000x1, .i32⟩
  | 71 => ⟨S10000x64, .f32⟩
  | 72 => ⟨S10000x64, .f32⟩
  | 73 => ⟨S640000x1, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x64, .f32⟩
  | 83 => ⟨S640000x64, .f32⟩
  | 84 => ⟨S640000x64, .f32⟩
  | 85 => ⟨S_, .f32⟩
  | 86 => ⟨S10000x64, .f32⟩
  | 87 => ⟨S640000x1, .i32⟩
  | 88 => ⟨S10000x64, .f32⟩
  | 89 => ⟨S10000x64, .f32⟩
  | 90 => ⟨S640000x1, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x64, .f32⟩
  | 100 => ⟨S640000x64, .f32⟩
  | 101 => ⟨S640000x64, .f32⟩
  | 102 => ⟨S_, .f32⟩
  | 103 => ⟨S10000x64, .f32⟩
  | 104 => ⟨S640000x1, .i32⟩
  | 105 => ⟨S10000x64, .f32⟩
  | 106 => ⟨S10000x64, .f32⟩
  | 107 => ⟨S640000x1, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x64, .f32⟩
  | 117 => ⟨S640000x64, .f32⟩
  | 118 => ⟨S640000x64, .f32⟩
  | 119 => ⟨S_, .f32⟩
  | 120 => ⟨S10000x64, .f32⟩
  | 121 => ⟨S640000x1, .i32⟩
  | 122 => ⟨S10000x64, .f32⟩
  | 123 => ⟨S10000x64, .f32⟩
  | 124 => ⟨S640000x1, .f32⟩
  | 125 => ⟨S_, .i32⟩
  | 126 => ⟨S640000, .i32⟩
  | 127 => ⟨S640000, .i1⟩
  | _ => ⟨S10000x1, .f32⟩

abbrev hbmTy0_14 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000x64, .f32⟩
  | 6 => ⟨S640000x64, .f32⟩
  | 7 => ⟨S640000x64, .f32⟩
  | 8 => ⟨S_, .f32⟩
  | 9 => ⟨S10000x64, .f32⟩
  | 10 => ⟨S640000x1, .i32⟩
  | 11 => ⟨S10000x64, .f32⟩
  | 12 => ⟨S10000x64, .f32⟩
  | 13 => ⟨S640000x1, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x64, .f32⟩
  | 23 => ⟨S640000x64, .f32⟩
  | 24 => ⟨S640000x64, .f32⟩
  | 25 => ⟨S_, .f32⟩
  | 26 => ⟨S10000x64, .f32⟩
  | 27 => ⟨S640000x1, .i32⟩
  | 28 => ⟨S10000x64, .f32⟩
  | 29 => ⟨S10000x64, .f32⟩
  | 30 => ⟨S1, .f32⟩
  | 31 => ⟨S_, .f32⟩
  | 32 => ⟨S_, .f32⟩
  | 33 => ⟨S_, .f32⟩
  | 34 => ⟨S10000x64, .f32⟩
  | 35 => ⟨S10000x64, .f32⟩
  | 36 => ⟨S10000x64, .f32⟩
  | 37 => ⟨S640000x1, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x64, .f32⟩
  | 47 => ⟨S640000x64, .f32⟩
  | 48 => ⟨S640000x64, .f32⟩
  | 49 => ⟨S_, .f32⟩
  | 50 => ⟨S10000x64, .f32⟩
  | 51 => ⟨S640000x1, .i32⟩
  | 52 => ⟨S10000x64, .f32⟩
  | 53 => ⟨S10000x64, .f32⟩
  | 54 => ⟨S640000x1, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x64, .f32⟩
  | 64 => ⟨S640000x64, .f32⟩
  | 65 => ⟨S640000x64, .f32⟩
  | 66 => ⟨S_, .f32⟩
  | 67 => ⟨S10000x64, .f32⟩
  | 68 => ⟨S640000x1, .i32⟩
  | 69 => ⟨S10000x64, .f32⟩
  | 70 => ⟨S10000x64, .f32⟩
  | 71 => ⟨S640000x1, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x64, .f32⟩
  | 81 => ⟨S640000x64, .f32⟩
  | 82 => ⟨S640000x64, .f32⟩
  | 83 => ⟨S_, .f32⟩
  | 84 => ⟨S10000x64, .f32⟩
  | 85 => ⟨S640000x1, .i32⟩
  | 86 => ⟨S10000x64, .f32⟩
  | 87 => ⟨S10000x64, .f32⟩
  | 88 => ⟨S640000x1, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x64, .f32⟩
  | 98 => ⟨S640000x64, .f32⟩
  | 99 => ⟨S640000x64, .f32⟩
  | 100 => ⟨S_, .f32⟩
  | 101 => ⟨S10000x64, .f32⟩
  | 102 => ⟨S640000x1, .i32⟩
  | 103 => ⟨S10000x64, .f32⟩
  | 104 => ⟨S10000x64, .f32⟩
  | 105 => ⟨S640000x1, .f32⟩
  | 106 => ⟨S_, .i32⟩
  | 107 => ⟨S640000, .i32⟩
  | 108 => ⟨S640000, .i1⟩
  | 109 => ⟨S_, .i32⟩
  | 110 => ⟨S640000, .i32⟩
  | 111 => ⟨S640000, .i32⟩
  | 112 => ⟨S640000, .i32⟩
  | 113 => ⟨S640000x1, .i32⟩
  | 114 => ⟨S640000x64, .f32⟩
  | 115 => ⟨S640000x64, .f32⟩
  | 116 => ⟨S640000x64, .f32⟩
  | 117 => ⟨S_, .f32⟩
  | 118 => ⟨S10000x64, .f32⟩
  | 119 => ⟨S640000x1, .i32⟩
  | 120 => ⟨S10000x64, .f32⟩
  | 121 => ⟨S10000x64, .f32⟩
  | 122 => ⟨S640000x1, .f32⟩
  | 123 => ⟨S_, .i32⟩
  | 124 => ⟨S640000, .i32⟩
  | 125 => ⟨S640000, .i1⟩
  | 126 => ⟨S_, .i32⟩
  | 127 => ⟨S640000, .i32⟩
  | _ => ⟨S10000x1, .f32⟩

abbrev hbmTy0_15 (i : Nat) : BufTy := match i % 128 with
  | 0 => ⟨S640000, .i32⟩
  | 1 => ⟨S640000, .i32⟩
  | 2 => ⟨S640000x1, .i32⟩
  | 3 => ⟨S640000x64, .f32⟩
  | 4 => ⟨S640000x64, .f32⟩
  | 5 => ⟨S640000x64, .f32⟩
  | 6 => ⟨S_, .f32⟩
  | 7 => ⟨S10000x64, .f32⟩
  | 8 => ⟨S640000x1, .i32⟩
  | 9 => ⟨S10000x64, .f32⟩
  | 10 => ⟨S10000x64, .f32⟩
  | 11 => ⟨S640000x1, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x64, .f32⟩
  | 21 => ⟨S640000x64, .f32⟩
  | 22 => ⟨S640000x64, .f32⟩
  | 23 => ⟨S_, .f32⟩
  | 24 => ⟨S10000x64, .f32⟩
  | 25 => ⟨S640000x1, .i32⟩
  | 26 => ⟨S10000x64, .f32⟩
  | 27 => ⟨S10000x64, .f32⟩
  | 28 => ⟨S1, .f32⟩
  | 29 => ⟨S_, .f32⟩
  | 30 => ⟨S_, .f32⟩
  | 31 => ⟨S_, .f32⟩
  | 32 => ⟨S10000x64, .f32⟩
  | 33 => ⟨S10000x64, .f32⟩
  | 34 => ⟨S10000x64, .f32⟩
  | 35 => ⟨S640000x1, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x64, .f32⟩
  | 45 => ⟨S640000x64, .f32⟩
  | 46 => ⟨S640000x64, .f32⟩
  | 47 => ⟨S_, .f32⟩
  | 48 => ⟨S10000x64, .f32⟩
  | 49 => ⟨S640000x1, .i32⟩
  | 50 => ⟨S10000x64, .f32⟩
  | 51 => ⟨S10000x64, .f32⟩
  | 52 => ⟨S640000x1, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x64, .f32⟩
  | 62 => ⟨S640000x64, .f32⟩
  | 63 => ⟨S640000x64, .f32⟩
  | 64 => ⟨S_, .f32⟩
  | 65 => ⟨S10000x64, .f32⟩
  | 66 => ⟨S640000x1, .i32⟩
  | 67 => ⟨S10000x64, .f32⟩
  | 68 => ⟨S10000x64, .f32⟩
  | 69 => ⟨S640000x1, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x64, .f32⟩
  | 79 => ⟨S640000x64, .f32⟩
  | 80 => ⟨S640000x64, .f32⟩
  | 81 => ⟨S_, .f32⟩
  | 82 => ⟨S10000x64, .f32⟩
  | 83 => ⟨S640000x1, .i32⟩
  | 84 => ⟨S10000x64, .f32⟩
  | 85 => ⟨S10000x64, .f32⟩
  | 86 => ⟨S640000x1, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x64, .f32⟩
  | 96 => ⟨S640000x64, .f32⟩
  | 97 => ⟨S640000x64, .f32⟩
  | 98 => ⟨S_, .f32⟩
  | 99 => ⟨S10000x64, .f32⟩
  | 100 => ⟨S640000x1, .i32⟩
  | 101 => ⟨S10000x64, .f32⟩
  | 102 => ⟨S10000x64, .f32⟩
  | 103 => ⟨S640000x1, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x64, .f32⟩
  | 113 => ⟨S640000x64, .f32⟩
  | 114 => ⟨S640000x64, .f32⟩
  | 115 => ⟨S_, .f32⟩
  | 116 => ⟨S10000x64, .f32⟩
  | 117 => ⟨S640000x1, .i32⟩
  | 118 => ⟨S10000x64, .f32⟩
  | 119 => ⟨S10000x64, .f32⟩
  | 120 => ⟨S640000x1, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S10000x1, .f32⟩

abbrev hbmTy0_16 (i : Nat) : BufTy := match i % 128 with
  | 0 => ⟨S640000x1, .i32⟩
  | 1 => ⟨S640000x64, .f32⟩
  | 2 => ⟨S640000x64, .f32⟩
  | 3 => ⟨S640000x64, .f32⟩
  | 4 => ⟨S_, .f32⟩
  | 5 => ⟨S10000x64, .f32⟩
  | 6 => ⟨S640000x1, .i32⟩
  | 7 => ⟨S10000x64, .f32⟩
  | 8 => ⟨S10000x64, .f32⟩
  | 9 => ⟨S640000x1, .f32⟩
  | 10 => ⟨S_, .i32⟩
  | 11 => ⟨S640000, .i32⟩
  | 12 => ⟨S640000, .i1⟩
  | 13 => ⟨S_, .i32⟩
  | 14 => ⟨S640000, .i32⟩
  | 15 => ⟨S640000, .i32⟩
  | 16 => ⟨S640000, .i32⟩
  | 17 => ⟨S640000x1, .i32⟩
  | 18 => ⟨S640000x64, .f32⟩
  | 19 => ⟨S640000x64, .f32⟩
  | 20 => ⟨S640000x64, .f32⟩
  | 21 => ⟨S_, .f32⟩
  | 22 => ⟨S10000x64, .f32⟩
  | 23 => ⟨S640000x1, .i32⟩
  | 24 => ⟨S10000x64, .f32⟩
  | 25 => ⟨S10000x64, .f32⟩
  | 26 => ⟨S640000x1, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x64, .f32⟩
  | 36 => ⟨S640000x64, .f32⟩
  | 37 => ⟨S640000x64, .f32⟩
  | 38 => ⟨S_, .f32⟩
  | 39 => ⟨S10000x64, .f32⟩
  | 40 => ⟨S640000x1, .i32⟩
  | 41 => ⟨S10000x64, .f32⟩
  | 42 => ⟨S10000x64, .f32⟩
  | 43 => ⟨S1, .f32⟩
  | 44 => ⟨S_, .f32⟩
  | 45 => ⟨S_, .f32⟩
  | 46 => ⟨S_, .f32⟩
  | 47 => ⟨S10000x64, .f32⟩
  | 48 => ⟨S10000x64, .f32⟩
  | 49 => ⟨S10000x64, .f32⟩
  | 50 => ⟨S640000x1, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x64, .f32⟩
  | 60 => ⟨S640000x64, .f32⟩
  | 61 => ⟨S640000x64, .f32⟩
  | 62 => ⟨S_, .f32⟩
  | 63 => ⟨S10000x64, .f32⟩
  | 64 => ⟨S640000x1, .i32⟩
  | 65 => ⟨S10000x64, .f32⟩
  | 66 => ⟨S10000x64, .f32⟩
  | 67 => ⟨S640000x1, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x64, .f32⟩
  | 77 => ⟨S640000x64, .f32⟩
  | 78 => ⟨S640000x64, .f32⟩
  | 79 => ⟨S_, .f32⟩
  | 80 => ⟨S10000x64, .f32⟩
  | 81 => ⟨S640000x1, .i32⟩
  | 82 => ⟨S10000x64, .f32⟩
  | 83 => ⟨S10000x64, .f32⟩
  | 84 => ⟨S640000x1, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x64, .f32⟩
  | 94 => ⟨S640000x64, .f32⟩
  | 95 => ⟨S640000x64, .f32⟩
  | 96 => ⟨S_, .f32⟩
  | 97 => ⟨S10000x64, .f32⟩
  | 98 => ⟨S640000x1, .i32⟩
  | 99 => ⟨S10000x64, .f32⟩
  | 100 => ⟨S10000x64, .f32⟩
  | 101 => ⟨S640000x1, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x64, .f32⟩
  | 111 => ⟨S640000x64, .f32⟩
  | 112 => ⟨S640000x64, .f32⟩
  | 113 => ⟨S_, .f32⟩
  | 114 => ⟨S10000x64, .f32⟩
  | 115 => ⟨S640000x1, .i32⟩
  | 116 => ⟨S10000x64, .f32⟩
  | 117 => ⟨S10000x64, .f32⟩
  | 118 => ⟨S640000x1, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000x64, .f32⟩
  | _ => ⟨S10000x1, .f32⟩

abbrev hbmTy0_17 (i : Nat) : BufTy := match i % 128 with
  | 0 => ⟨S640000x64, .f32⟩
  | 1 => ⟨S640000x64, .f32⟩
  | 2 => ⟨S_, .f32⟩
  | 3 => ⟨S10000x64, .f32⟩
  | 4 => ⟨S640000x1, .i32⟩
  | 5 => ⟨S10000x64, .f32⟩
  | 6 => ⟨S10000x64, .f32⟩
  | 7 => ⟨S640000x1, .f32⟩
  | 8 => ⟨S_, .i32⟩
  | 9 => ⟨S640000, .i32⟩
  | 10 => ⟨S640000, .i1⟩
  | 11 => ⟨S_, .i32⟩
  | 12 => ⟨S640000, .i32⟩
  | 13 => ⟨S640000, .i32⟩
  | 14 => ⟨S640000, .i32⟩
  | 15 => ⟨S640000x1, .i32⟩
  | 16 => ⟨S640000x64, .f32⟩
  | 17 => ⟨S640000x64, .f32⟩
  | 18 => ⟨S640000x64, .f32⟩
  | 19 => ⟨S_, .f32⟩
  | 20 => ⟨S10000x64, .f32⟩
  | 21 => ⟨S640000x1, .i32⟩
  | 22 => ⟨S10000x64, .f32⟩
  | 23 => ⟨S10000x64, .f32⟩
  | 24 => ⟨S640000x1, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x64, .f32⟩
  | 34 => ⟨S640000x64, .f32⟩
  | 35 => ⟨S640000x64, .f32⟩
  | 36 => ⟨S_, .f32⟩
  | 37 => ⟨S10000x64, .f32⟩
  | 38 => ⟨S640000x1, .i32⟩
  | 39 => ⟨S10000x64, .f32⟩
  | 40 => ⟨S10000x64, .f32⟩
  | 41 => ⟨S640000x1, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x64, .f32⟩
  | 51 => ⟨S640000x64, .f32⟩
  | 52 => ⟨S640000x64, .f32⟩
  | 53 => ⟨S_, .f32⟩
  | 54 => ⟨S10000x64, .f32⟩
  | 55 => ⟨S640000x1, .i32⟩
  | 56 => ⟨S10000x64, .f32⟩
  | 57 => ⟨S10000x64, .f32⟩
  | 58 => ⟨S640000x1, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000x64, .f32⟩
  | 68 => ⟨S640000x64, .f32⟩
  | 69 => ⟨S640000x64, .f32⟩
  | 70 => ⟨S_, .f32⟩
  | 71 => ⟨S10000x64, .f32⟩
  | 72 => ⟨S640000x1, .i32⟩
  | 73 => ⟨S10000x64, .f32⟩
  | 74 => ⟨S10000x64, .f32⟩
  | 75 => ⟨S1, .f32⟩
  | 76 => ⟨S_, .f32⟩
  | 77 => ⟨S_, .f32⟩
  | 78 => ⟨S_, .f32⟩
  | 79 => ⟨S10000x64, .f32⟩
  | 80 => ⟨S10000x64, .f32⟩
  | 81 => ⟨S10000x64, .f32⟩
  | 82 => ⟨S640000x1, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x64, .f32⟩
  | 92 => ⟨S640000x64, .f32⟩
  | 93 => ⟨S640000x64, .f32⟩
  | 94 => ⟨S_, .f32⟩
  | 95 => ⟨S10000x64, .f32⟩
  | 96 => ⟨S640000x1, .i32⟩
  | 97 => ⟨S10000x64, .f32⟩
  | 98 => ⟨S10000x64, .f32⟩
  | 99 => ⟨S640000x1, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x64, .f32⟩
  | 109 => ⟨S640000x64, .f32⟩
  | 110 => ⟨S640000x64, .f32⟩
  | 111 => ⟨S_, .f32⟩
  | 112 => ⟨S10000x64, .f32⟩
  | 113 => ⟨S640000x1, .i32⟩
  | 114 => ⟨S10000x64, .f32⟩
  | 115 => ⟨S10000x64, .f32⟩
  | 116 => ⟨S640000x1, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000x64, .f32⟩
  | 126 => ⟨S640000x64, .f32⟩
  | 127 => ⟨S640000x64, .f32⟩
  | _ => ⟨S10000x1, .f32⟩

abbrev hbmTy0_18 (i : Nat) : BufTy := match i % 128 with
  | 0 => ⟨S_, .f32⟩
  | 1 => ⟨S10000x64, .f32⟩
  | 2 => ⟨S640000x1, .i32⟩
  | 3 => ⟨S10000x64, .f32⟩
  | 4 => ⟨S10000x64, .f32⟩
  | 5 => ⟨S640000x1, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x64, .f32⟩
  | 15 => ⟨S640000x64, .f32⟩
  | 16 => ⟨S640000x64, .f32⟩
  | 17 => ⟨S_, .f32⟩
  | 18 => ⟨S10000x64, .f32⟩
  | 19 => ⟨S640000x1, .i32⟩
  | 20 => ⟨S10000x64, .f32⟩
  | 21 => ⟨S10000x64, .f32⟩
  | 22 => ⟨S640000x1, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x64, .f32⟩
  | 32 => ⟨S640000x64, .f32⟩
  | 33 => ⟨S640000x64, .f32⟩
  | 34 => ⟨S_, .f32⟩
  | 35 => ⟨S10000x64, .f32⟩
  | 36 => ⟨S640000x1, .i32⟩
  | 37 => ⟨S10000x64, .f32⟩
  | 38 => ⟨S10000x64, .f32⟩
  | 39 => ⟨S640000x1, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000x64, .f32⟩
  | 49 => ⟨S640000x64, .f32⟩
  | 50 => ⟨S640000x64, .f32⟩
  | 51 => ⟨S_, .f32⟩
  | 52 => ⟨S10000x64, .f32⟩
  | 53 => ⟨S640000x1, .i32⟩
  | 54 => ⟨S10000x64, .f32⟩
  | 55 => ⟨S10000x64, .f32⟩
  | 56 => ⟨S640000x1, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x64, .f32⟩
  | 66 => ⟨S640000x64, .f32⟩
  | 67 => ⟨S640000x64, .f32⟩
  | 68 => ⟨S_, .f32⟩
  | 69 => ⟨S10000x64, .f32⟩
  | 70 => ⟨S640000x1, .i32⟩
  | 71 => ⟨S10000x64, .f32⟩
  | 72 => ⟨S10000x64, .f32⟩
  | 73 => ⟨S640000x1, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x64, .f32⟩
  | 83 => ⟨S640000x64, .f32⟩
  | 84 => ⟨S640000x64, .f32⟩
  | 85 => ⟨S_, .f32⟩
  | 86 => ⟨S10000x64, .f32⟩
  | 87 => ⟨S640000x1, .i32⟩
  | 88 => ⟨S10000x64, .f32⟩
  | 89 => ⟨S10000x64, .f32⟩
  | 90 => ⟨S640000x1, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x64, .f32⟩
  | 100 => ⟨S640000x64, .f32⟩
  | 101 => ⟨S640000x64, .f32⟩
  | 102 => ⟨S_, .f32⟩
  | 103 => ⟨S10000x64, .f32⟩
  | 104 => ⟨S640000x1, .i32⟩
  | 105 => ⟨S10000x64, .f32⟩
  | 106 => ⟨S10000x64, .f32⟩
  | 107 => ⟨S640000x1, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x64, .f32⟩
  | 117 => ⟨S640000x64, .f32⟩
  | 118 => ⟨S640000x64, .f32⟩
  | 119 => ⟨S_, .f32⟩
  | 120 => ⟨S10000x64, .f32⟩
  | 121 => ⟨S640000x1, .i32⟩
  | 122 => ⟨S10000x64, .f32⟩
  | 123 => ⟨S10000x64, .f32⟩
  | 124 => ⟨S1, .f32⟩
  | 125 => ⟨S_, .f32⟩
  | 126 => ⟨S_, .f32⟩
  | 127 => ⟨S_, .f32⟩
  | _ => ⟨S10000x1, .f32⟩

abbrev hbmTy0_19 (i : Nat) : BufTy := match i % 128 with
  | 0 => ⟨S10000x64, .f32⟩
  | 1 => ⟨S10000x64, .f32⟩
  | 2 => ⟨S10000x64, .f32⟩
  | 3 => ⟨S_, .f32⟩
  | 4 => ⟨S10000x64, .f32⟩
  | 5 => ⟨S10000x64, .f32⟩
  | 6 => ⟨S10000x1, .f32⟩
  | 7 => ⟨S1x1, .f32⟩
  | 8 => ⟨S10000x1, .f32⟩
  | 9 => ⟨S10000x1, .f32⟩
  | _ => ⟨S10000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_cst : Ref sig .tc := ⟨.hbm, 60, rfl⟩
abbrev main_call2_v0 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_21 : Ref sig .tc := ⟨.hbm, 132, rfl⟩
abbrev main_v94 : Ref sig .tc := ⟨.hbm, 133, rfl⟩
abbrev main_v95 : Ref sig .tc := ⟨.hbm, 134, rfl⟩
abbrev main_c_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_24 : Ref sig .tc := ⟨.hbm, 149, rfl⟩
abbrev main_v108 : Ref sig .tc := ⟨.hbm, 150, rfl⟩
abbrev main_v109 : Ref sig .tc := ⟨.hbm, 151, rfl⟩
abbrev main_c_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_26 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_27 : Ref sig .tc := ⟨.hbm, 166, rfl⟩
abbrev main_v122 : Ref sig .tc := ⟨.hbm, 167, rfl⟩
abbrev main_v123 : Ref sig .tc := ⟨.hbm, 168, rfl⟩
abbrev main_c_28 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_29 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_30 : Ref sig .tc := ⟨.hbm, 183, rfl⟩
abbrev main_v136 : Ref sig .tc := ⟨.hbm, 184, rfl⟩
abbrev main_v137 : Ref sig .tc := ⟨.hbm, 185, rfl⟩
abbrev main_c_31 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_32 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c_33 : Ref sig .tc := ⟨.hbm, 200, rfl⟩
abbrev main_v150 : Ref sig .tc := ⟨.hbm, 201, rfl⟩
abbrev main_v151 : Ref sig .tc := ⟨.hbm, 202, rfl⟩
abbrev main_c_34 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_35 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_36 : Ref sig .tc := ⟨.hbm, 217, rfl⟩
abbrev main_v164 : Ref sig .tc := ⟨.hbm, 218, rfl⟩
abbrev main_v165 : Ref sig .tc := ⟨.hbm, 219, rfl⟩
abbrev main_c_37 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_38 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_39 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_c_40 : Ref sig .tc := ⟨.hbm, 240, rfl⟩
abbrev main_v183 : Ref sig .tc := ⟨.hbm, 241, rfl⟩
abbrev main_v184 : Ref sig .tc := ⟨.hbm, 242, rfl⟩
abbrev main_c_41 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_42 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_43 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_c_44 : Ref sig .tc := ⟨.hbm, 264, rfl⟩
abbrev main_v203 : Ref sig .tc := ⟨.hbm, 265, rfl⟩
abbrev main_v204 : Ref sig .tc := ⟨.hbm, 266, rfl⟩
abbrev main_c_45 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_46 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_c_47 : Ref sig .tc := ⟨.hbm, 281, rfl⟩
abbrev main_v217 : Ref sig .tc := ⟨.hbm, 282, rfl⟩
abbrev main_v218 : Ref sig .tc := ⟨.hbm, 283, rfl⟩
abbrev main_c_48 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_49 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_cst_50 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_c_51 : Ref sig .tc := ⟨.hbm, 305, rfl⟩
abbrev main_v237 : Ref sig .tc := ⟨.hbm, 306, rfl⟩
abbrev main_v238 : Ref sig .tc := ⟨.hbm, 307, rfl⟩
abbrev main_c_52 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_cst_53 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_c_54 : Ref sig .tc := ⟨.hbm, 322, rfl⟩
abbrev main_v251 : Ref sig .tc := ⟨.hbm, 323, rfl⟩
abbrev main_v252 : Ref sig .tc := ⟨.hbm, 324, rfl⟩
abbrev main_c_55 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_cst_56 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_c_57 : Ref sig .tc := ⟨.hbm, 339, rfl⟩
abbrev main_v265 : Ref sig .tc := ⟨.hbm, 340, rfl⟩
abbrev main_v266 : Ref sig .tc := ⟨.hbm, 341, rfl⟩
abbrev main_c_58 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_cst_59 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_cst_60 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_c_61 : Ref sig .tc := ⟨.hbm, 363, rfl⟩
abbrev main_v285 : Ref sig .tc := ⟨.hbm, 364, rfl⟩
abbrev main_v286 : Ref sig .tc := ⟨.hbm, 365, rfl⟩
abbrev main_c_62 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_cst_63 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_c_64 : Ref sig .tc := ⟨.hbm, 380, rfl⟩
abbrev main_v299 : Ref sig .tc := ⟨.hbm, 381, rfl⟩
abbrev main_v300 : Ref sig .tc := ⟨.hbm, 382, rfl⟩
abbrev main_c_65 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_cst_66 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_c_67 : Ref sig .tc := ⟨.hbm, 397, rfl⟩
abbrev main_v313 : Ref sig .tc := ⟨.hbm, 398, rfl⟩
abbrev main_v314 : Ref sig .tc := ⟨.hbm, 399, rfl⟩
abbrev main_c_68 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_cst_69 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_c_70 : Ref sig .tc := ⟨.hbm, 414, rfl⟩
abbrev main_v327 : Ref sig .tc := ⟨.hbm, 415, rfl⟩
abbrev main_v328 : Ref sig .tc := ⟨.hbm, 416, rfl⟩
abbrev main_c_71 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_cst_72 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_cst_73 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_c_74 : Ref sig .tc := ⟨.hbm, 438, rfl⟩
abbrev main_v347 : Ref sig .tc := ⟨.hbm, 439, rfl⟩
abbrev main_v348 : Ref sig .tc := ⟨.hbm, 440, rfl⟩
abbrev main_c_75 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_cst_76 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_c_77 : Ref sig .tc := ⟨.hbm, 455, rfl⟩
abbrev main_v361 : Ref sig .tc := ⟨.hbm, 456, rfl⟩
abbrev main_v362 : Ref sig .tc := ⟨.hbm, 457, rfl⟩
abbrev main_c_78 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_v369 : Ref sig .tc := ⟨.hbm, 465, rfl⟩
abbrev main_cst_79 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_c_80 : Ref sig .tc := ⟨.hbm, 472, rfl⟩
abbrev main_v375 : Ref sig .tc := ⟨.hbm, 473, rfl⟩
abbrev main_v376 : Ref sig .tc := ⟨.hbm, 474, rfl⟩
abbrev main_c_81 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_cst_82 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_c_83 : Ref sig .tc := ⟨.hbm, 489, rfl⟩
abbrev main_v389 : Ref sig .tc := ⟨.hbm, 490, rfl⟩
abbrev main_v390 : Ref sig .tc := ⟨.hbm, 491, rfl⟩
abbrev main_c_84 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_cst_85 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_c_86 : Ref sig .tc := ⟨.hbm, 506, rfl⟩
abbrev main_v403 : Ref sig .tc := ⟨.hbm, 507, rfl⟩
abbrev main_v404 : Ref sig .tc := ⟨.hbm, 508, rfl⟩
abbrev main_c_87 : Ref sig .tc := ⟨.hbm, 509, rfl⟩
abbrev main_v405 : Ref sig .tc := ⟨.hbm, 510, rfl⟩
abbrev main_v406 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_cst_88 : Ref sig .tc := ⟨.hbm, 517, rfl⟩
abbrev main_v412 : Ref sig .tc := ⟨.hbm, 518, rfl⟩
abbrev main_v413 : Ref sig .tc := ⟨.hbm, 519, rfl⟩
abbrev main_v414 : Ref sig .tc := ⟨.hbm, 520, rfl⟩
abbrev main_v415 : Ref sig .tc := ⟨.hbm, 521, rfl⟩
abbrev main_v416 : Ref sig .tc := ⟨.hbm, 522, rfl⟩
abbrev main_v417 : Ref sig .tc := ⟨.hbm, 523, rfl⟩
abbrev main_cst_89 : Ref sig .tc := ⟨.hbm, 524, rfl⟩
abbrev main_v418 : Ref sig .tc := ⟨.hbm, 525, rfl⟩
abbrev main_v419 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_c_90 : Ref sig .tc := ⟨.hbm, 530, rfl⟩
abbrev main_v423 : Ref sig .tc := ⟨.hbm, 531, rfl⟩
abbrev main_v424 : Ref sig .tc := ⟨.hbm, 532, rfl⟩
abbrev main_c_91 : Ref sig .tc := ⟨.hbm, 533, rfl⟩
abbrev main_v425 : Ref sig .tc := ⟨.hbm, 534, rfl⟩
abbrev main_v426 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_cst_92 : Ref sig .tc := ⟨.hbm, 541, rfl⟩
abbrev main_v432 : Ref sig .tc := ⟨.hbm, 542, rfl⟩
abbrev main_v433 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_c_93 : Ref sig .tc := ⟨.hbm, 547, rfl⟩
abbrev main_v437 : Ref sig .tc := ⟨.hbm, 548, rfl⟩
abbrev main_v438 : Ref sig .tc := ⟨.hbm, 549, rfl⟩
abbrev main_c_94 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_cst_95 : Ref sig .tc := ⟨.hbm, 558, rfl⟩
abbrev main_v446 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_v450 : Ref sig .tc := ⟨.hbm, 563, rfl⟩
abbrev main_c_96 : Ref sig .tc := ⟨.hbm, 564, rfl⟩
abbrev main_v451 : Ref sig .tc := ⟨.hbm, 565, rfl⟩
abbrev main_v452 : Ref sig .tc := ⟨.hbm, 566, rfl⟩
abbrev main_c_97 : Ref sig .tc := ⟨.hbm, 567, rfl⟩
abbrev main_v453 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_v459 : Ref sig .tc := ⟨.hbm, 574, rfl⟩
abbrev main_cst_98 : Ref sig .tc := ⟨.hbm, 575, rfl⟩
abbrev main_v460 : Ref sig .tc := ⟨.hbm, 576, rfl⟩
abbrev main_v461 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_c_99 : Ref sig .tc := ⟨.hbm, 581, rfl⟩
abbrev main_v465 : Ref sig .tc := ⟨.hbm, 582, rfl⟩
abbrev main_v466 : Ref sig .tc := ⟨.hbm, 583, rfl⟩
abbrev main_c_100 : Ref sig .tc := ⟨.hbm, 584, rfl⟩
abbrev main_v467 : Ref sig .tc := ⟨.hbm, 585, rfl⟩
abbrev main_v468 : Ref sig .tc := ⟨.hbm, 586, rfl⟩
abbrev main_v469 : Ref sig .tc := ⟨.hbm, 587, rfl⟩
abbrev main_v470 : Ref sig .tc := ⟨.hbm, 588, rfl⟩
abbrev main_v471 : Ref sig .tc := ⟨.hbm, 589, rfl⟩
abbrev main_v472 : Ref sig .tc := ⟨.hbm, 590, rfl⟩
abbrev main_v473 : Ref sig .tc := ⟨.hbm, 591, rfl⟩
abbrev main_cst_101 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_c_102 : Ref sig .tc := ⟨.hbm, 598, rfl⟩
abbrev main_v479 : Ref sig .tc := ⟨.hbm, 599, rfl⟩
abbrev main_v480 : Ref sig .tc := ⟨.hbm, 600, rfl⟩
abbrev main_c_103 : Ref sig .tc := ⟨.hbm, 601, rfl⟩
abbrev main_v481 : Ref sig .tc := ⟨.hbm, 602, rfl⟩
abbrev main_v482 : Ref sig .tc := ⟨.hbm, 603, rfl⟩
abbrev main_v483 : Ref sig .tc := ⟨.hbm, 604, rfl⟩
abbrev main_v484 : Ref sig .tc := ⟨.hbm, 605, rfl⟩
abbrev main_v485 : Ref sig .tc := ⟨.hbm, 606, rfl⟩
abbrev main_v486 : Ref sig .tc := ⟨.hbm, 607, rfl⟩
abbrev main_v487 : Ref sig .tc := ⟨.hbm, 608, rfl⟩
abbrev main_cst_104 : Ref sig .tc := ⟨.hbm, 609, rfl⟩
abbrev main_v488 : Ref sig .tc := ⟨.hbm, 610, rfl⟩
abbrev main_v489 : Ref sig .tc := ⟨.hbm, 611, rfl⟩
abbrev main_v490 : Ref sig .tc := ⟨.hbm, 612, rfl⟩
abbrev main_v491 : Ref sig .tc := ⟨.hbm, 613, rfl⟩
abbrev main_v492 : Ref sig .tc := ⟨.hbm, 614, rfl⟩
abbrev main_c_105 : Ref sig .tc := ⟨.hbm, 615, rfl⟩
abbrev main_v493 : Ref sig .tc := ⟨.hbm, 616, rfl⟩
abbrev main_v494 : Ref sig .tc := ⟨.hbm, 617, rfl⟩
abbrev main_c_106 : Ref sig .tc := ⟨.hbm, 618, rfl⟩
abbrev main_v495 : Ref sig .tc := ⟨.hbm, 619, rfl⟩
abbrev main_v496 : Ref sig .tc := ⟨.hbm, 620, rfl⟩
abbrev main_v497 : Ref sig .tc := ⟨.hbm, 621, rfl⟩
abbrev main_v498 : Ref sig .tc := ⟨.hbm, 622, rfl⟩
abbrev main_v499 : Ref sig .tc := ⟨.hbm, 623, rfl⟩
abbrev main_v500 : Ref sig .tc := ⟨.hbm, 624, rfl⟩
abbrev main_v501 : Ref sig .tc := ⟨.hbm, 625, rfl⟩
abbrev main_cst_107 : Ref sig .tc := ⟨.hbm, 626, rfl⟩
abbrev main_v502 : Ref sig .tc := ⟨.hbm, 627, rfl⟩
abbrev main_v503 : Ref sig .tc := ⟨.hbm, 628, rfl⟩
abbrev main_v504 : Ref sig .tc := ⟨.hbm, 629, rfl⟩
abbrev main_v505 : Ref sig .tc := ⟨.hbm, 630, rfl⟩
abbrev main_v506 : Ref sig .tc := ⟨.hbm, 631, rfl⟩
abbrev main_v507 : Ref sig .tc := ⟨.hbm, 632, rfl⟩
abbrev main_cst_108 : Ref sig .tc := ⟨.hbm, 633, rfl⟩
abbrev main_v508 : Ref sig .tc := ⟨.hbm, 634, rfl⟩
abbrev main_v509 : Ref sig .tc := ⟨.hbm, 635, rfl⟩
abbrev main_v510 : Ref sig .tc := ⟨.hbm, 636, rfl⟩
abbrev main_v511 : Ref sig .tc := ⟨.hbm, 637, rfl⟩
abbrev main_v512 : Ref sig .tc := ⟨.hbm, 638, rfl⟩
abbrev main_c_109 : Ref sig .tc := ⟨.hbm, 639, rfl⟩
abbrev main_v513 : Ref sig .tc := ⟨.hbm, 640, rfl⟩
abbrev main_v514 : Ref sig .tc := ⟨.hbm, 641, rfl⟩
abbrev main_c_110 : Ref sig .tc := ⟨.hbm, 642, rfl⟩
abbrev main_v515 : Ref sig .tc := ⟨.hbm, 643, rfl⟩
abbrev main_v516 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_cst_111 : Ref sig .tc := ⟨.hbm, 650, rfl⟩
abbrev main_v522 : Ref sig .tc := ⟨.hbm, 651, rfl⟩
abbrev main_v523 : Ref sig .tc := ⟨.hbm, 652, rfl⟩
abbrev main_v524 : Ref sig .tc := ⟨.hbm, 653, rfl⟩
abbrev main_v525 : Ref sig .tc := ⟨.hbm, 654, rfl⟩
abbrev main_v526 : Ref sig .tc := ⟨.hbm, 655, rfl⟩
abbrev main_c_112 : Ref sig .tc := ⟨.hbm, 656, rfl⟩
abbrev main_v527 : Ref sig .tc := ⟨.hbm, 657, rfl⟩
abbrev main_v528 : Ref sig .tc := ⟨.hbm, 658, rfl⟩
abbrev main_c_113 : Ref sig .tc := ⟨.hbm, 659, rfl⟩
abbrev main_v529 : Ref sig .tc := ⟨.hbm, 660, rfl⟩
abbrev main_v530 : Ref sig .tc := ⟨.hbm, 661, rfl⟩
abbrev main_v531 : Ref sig .tc := ⟨.hbm, 662, rfl⟩
abbrev main_v532 : Ref sig .tc := ⟨.hbm, 663, rfl⟩
abbrev main_v533 : Ref sig .tc := ⟨.hbm, 664, rfl⟩
abbrev main_v534 : Ref sig .tc := ⟨.hbm, 665, rfl⟩
abbrev main_v535 : Ref sig .tc := ⟨.hbm, 666, rfl⟩
abbrev main_cst_114 : Ref sig .tc := ⟨.hbm, 667, rfl⟩
abbrev main_v536 : Ref sig .tc := ⟨.hbm, 668, rfl⟩
abbrev main_v537 : Ref sig .tc := ⟨.hbm, 669, rfl⟩
abbrev main_v538 : Ref sig .tc := ⟨.hbm, 670, rfl⟩
abbrev main_v539 : Ref sig .tc := ⟨.hbm, 671, rfl⟩
abbrev main_v540 : Ref sig .tc := ⟨.hbm, 672, rfl⟩
abbrev main_c_115 : Ref sig .tc := ⟨.hbm, 673, rfl⟩
abbrev main_v541 : Ref sig .tc := ⟨.hbm, 674, rfl⟩
abbrev main_v542 : Ref sig .tc := ⟨.hbm, 675, rfl⟩
abbrev main_c_116 : Ref sig .tc := ⟨.hbm, 676, rfl⟩
abbrev main_v543 : Ref sig .tc := ⟨.hbm, 677, rfl⟩
abbrev main_v544 : Ref sig .tc := ⟨.hbm, 678, rfl⟩
abbrev main_v545 : Ref sig .tc := ⟨.hbm, 679, rfl⟩
abbrev main_v546 : Ref sig .tc := ⟨.hbm, 680, rfl⟩
abbrev main_v547 : Ref sig .tc := ⟨.hbm, 681, rfl⟩
abbrev main_v548 : Ref sig .tc := ⟨.hbm, 682, rfl⟩
abbrev main_v549 : Ref sig .tc := ⟨.hbm, 683, rfl⟩
abbrev main_cst_117 : Ref sig .tc := ⟨.hbm, 684, rfl⟩
abbrev main_v550 : Ref sig .tc := ⟨.hbm, 685, rfl⟩
abbrev main_v551 : Ref sig .tc := ⟨.hbm, 686, rfl⟩
abbrev main_v552 : Ref sig .tc := ⟨.hbm, 687, rfl⟩
abbrev main_v553 : Ref sig .tc := ⟨.hbm, 688, rfl⟩
abbrev main_v554 : Ref sig .tc := ⟨.hbm, 689, rfl⟩
abbrev main_c_118 : Ref sig .tc := ⟨.hbm, 690, rfl⟩
abbrev main_v555 : Ref sig .tc := ⟨.hbm, 691, rfl⟩
abbrev main_v556 : Ref sig .tc := ⟨.hbm, 692, rfl⟩
abbrev main_c_119 : Ref sig .tc := ⟨.hbm, 693, rfl⟩
abbrev main_v557 : Ref sig .tc := ⟨.hbm, 694, rfl⟩
abbrev main_v558 : Ref sig .tc := ⟨.hbm, 695, rfl⟩
abbrev main_v559 : Ref sig .tc := ⟨.hbm, 696, rfl⟩
abbrev main_v560 : Ref sig .tc := ⟨.hbm, 697, rfl⟩
abbrev main_v561 : Ref sig .tc := ⟨.hbm, 698, rfl⟩
abbrev main_v562 : Ref sig .tc := ⟨.hbm, 699, rfl⟩
abbrev main_v563 : Ref sig .tc := ⟨.hbm, 700, rfl⟩
abbrev main_cst_120 : Ref sig .tc := ⟨.hbm, 701, rfl⟩
abbrev main_v564 : Ref sig .tc := ⟨.hbm, 702, rfl⟩
abbrev main_v565 : Ref sig .tc := ⟨.hbm, 703, rfl⟩
abbrev main_v566 : Ref sig .tc := ⟨.hbm, 704, rfl⟩
abbrev main_v567 : Ref sig .tc := ⟨.hbm, 705, rfl⟩
abbrev main_v568 : Ref sig .tc := ⟨.hbm, 706, rfl⟩
abbrev main_c_121 : Ref sig .tc := ⟨.hbm, 707, rfl⟩
abbrev main_v569 : Ref sig .tc := ⟨.hbm, 708, rfl⟩
abbrev main_v570 : Ref sig .tc := ⟨.hbm, 709, rfl⟩
abbrev main_c_122 : Ref sig .tc := ⟨.hbm, 710, rfl⟩
abbrev main_v571 : Ref sig .tc := ⟨.hbm, 711, rfl⟩
abbrev main_v572 : Ref sig .tc := ⟨.hbm, 712, rfl⟩
abbrev main_v573 : Ref sig .tc := ⟨.hbm, 713, rfl⟩
abbrev main_v574 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_cst_123 : Ref sig .tc := ⟨.hbm, 718, rfl⟩
abbrev main_v578 : Ref sig .tc := ⟨.hbm, 719, rfl⟩
abbrev main_v579 : Ref sig .tc := ⟨.hbm, 720, rfl⟩
abbrev main_v580 : Ref sig .tc := ⟨.hbm, 721, rfl⟩
abbrev main_v581 : Ref sig .tc := ⟨.hbm, 722, rfl⟩
abbrev main_v582 : Ref sig .tc := ⟨.hbm, 723, rfl⟩
abbrev main_c_124 : Ref sig .tc := ⟨.hbm, 724, rfl⟩
abbrev main_v583 : Ref sig .tc := ⟨.hbm, 725, rfl⟩
abbrev main_v584 : Ref sig .tc := ⟨.hbm, 726, rfl⟩
abbrev main_c_125 : Ref sig .tc := ⟨.hbm, 727, rfl⟩
abbrev main_v585 : Ref sig .tc := ⟨.hbm, 728, rfl⟩
abbrev main_v586 : Ref sig .tc := ⟨.hbm, 729, rfl⟩
abbrev main_v587 : Ref sig .tc := ⟨.hbm, 730, rfl⟩
abbrev main_v588 : Ref sig .tc := ⟨.hbm, 731, rfl⟩
abbrev main_v589 : Ref sig .tc := ⟨.hbm, 732, rfl⟩
abbrev main_v590 : Ref sig .tc := ⟨.hbm, 733, rfl⟩
abbrev main_v591 : Ref sig .tc := ⟨.hbm, 734, rfl⟩
abbrev main_cst_126 : Ref sig .tc := ⟨.hbm, 735, rfl⟩
abbrev main_v592 : Ref sig .tc := ⟨.hbm, 736, rfl⟩
abbrev main_v593 : Ref sig .tc := ⟨.hbm, 737, rfl⟩
abbrev main_v594 : Ref sig .tc := ⟨.hbm, 738, rfl⟩
abbrev main_v595 : Ref sig .tc := ⟨.hbm, 739, rfl⟩
abbrev main_v596 : Ref sig .tc := ⟨.hbm, 740, rfl⟩
abbrev main_c_127 : Ref sig .tc := ⟨.hbm, 741, rfl⟩
abbrev main_v597 : Ref sig .tc := ⟨.hbm, 742, rfl⟩
abbrev main_v598 : Ref sig .tc := ⟨.hbm, 743, rfl⟩
abbrev main_c_128 : Ref sig .tc := ⟨.hbm, 744, rfl⟩
abbrev main_v599 : Ref sig .tc := ⟨.hbm, 745, rfl⟩
abbrev main_v600 : Ref sig .tc := ⟨.hbm, 746, rfl⟩
abbrev main_v601 : Ref sig .tc := ⟨.hbm, 747, rfl⟩
abbrev main_v602 : Ref sig .tc := ⟨.hbm, 748, rfl⟩
abbrev main_v603 : Ref sig .tc := ⟨.hbm, 749, rfl⟩
abbrev main_v604 : Ref sig .tc := ⟨.hbm, 750, rfl⟩
abbrev main_v605 : Ref sig .tc := ⟨.hbm, 751, rfl⟩
abbrev main_cst_129 : Ref sig .tc := ⟨.hbm, 752, rfl⟩
abbrev main_v606 : Ref sig .tc := ⟨.hbm, 753, rfl⟩
abbrev main_v607 : Ref sig .tc := ⟨.hbm, 754, rfl⟩
abbrev main_v608 : Ref sig .tc := ⟨.hbm, 755, rfl⟩
abbrev main_v609 : Ref sig .tc := ⟨.hbm, 756, rfl⟩
abbrev main_v610 : Ref sig .tc := ⟨.hbm, 757, rfl⟩
abbrev main_v611 : Ref sig .tc := ⟨.hbm, 758, rfl⟩
abbrev main_cst_130 : Ref sig .tc := ⟨.hbm, 759, rfl⟩
abbrev main_v612 : Ref sig .tc := ⟨.hbm, 760, rfl⟩
abbrev main_v613 : Ref sig .tc := ⟨.hbm, 761, rfl⟩
abbrev main_v614 : Ref sig .tc := ⟨.hbm, 762, rfl⟩
abbrev main_v615 : Ref sig .tc := ⟨.hbm, 763, rfl⟩
abbrev main_v616 : Ref sig .tc := ⟨.hbm, 764, rfl⟩
abbrev main_c_131 : Ref sig .tc := ⟨.hbm, 765, rfl⟩
abbrev main_v617 : Ref sig .tc := ⟨.hbm, 766, rfl⟩
abbrev main_v618 : Ref sig .tc := ⟨.hbm, 767, rfl⟩
abbrev main_c_132 : Ref sig .tc := ⟨.hbm, 768, rfl⟩
abbrev main_v619 : Ref sig .tc := ⟨.hbm, 769, rfl⟩
abbrev main_v620 : Ref sig .tc := ⟨.hbm, 770, rfl⟩
abbrev main_v621 : Ref sig .tc := ⟨.hbm, 771, rfl⟩
abbrev main_v622 : Ref sig .tc := ⟨.hbm, 772, rfl⟩
abbrev main_v623 : Ref sig .tc := ⟨.hbm, 773, rfl⟩
abbrev main_v624 : Ref sig .tc := ⟨.hbm, 774, rfl⟩
abbrev main_v625 : Ref sig .tc := ⟨.hbm, 775, rfl⟩
abbrev main_cst_133 : Ref sig .tc := ⟨.hbm, 776, rfl⟩
abbrev main_v626 : Ref sig .tc := ⟨.hbm, 777, rfl⟩
abbrev main_v627 : Ref sig .tc := ⟨.hbm, 778, rfl⟩
abbrev main_v628 : Ref sig .tc := ⟨.hbm, 779, rfl⟩
abbrev main_v629 : Ref sig .tc := ⟨.hbm, 780, rfl⟩
abbrev main_v630 : Ref sig .tc := ⟨.hbm, 781, rfl⟩
abbrev main_c_134 : Ref sig .tc := ⟨.hbm, 782, rfl⟩
abbrev main_v631 : Ref sig .tc := ⟨.hbm, 783, rfl⟩
abbrev main_v632 : Ref sig .tc := ⟨.hbm, 784, rfl⟩
abbrev main_c_135 : Ref sig .tc := ⟨.hbm, 785, rfl⟩
abbrev main_v633 : Ref sig .tc := ⟨.hbm, 786, rfl⟩
abbrev main_v634 : Ref sig .tc := ⟨.hbm, 787, rfl⟩
abbrev main_v635 : Ref sig .tc := ⟨.hbm, 788, rfl⟩
abbrev main_v636 : Ref sig .tc := ⟨.hbm, 789, rfl⟩
abbrev main_v637 : Ref sig .tc := ⟨.hbm, 790, rfl⟩
abbrev main_v638 : Ref sig .tc := ⟨.hbm, 791, rfl⟩
abbrev main_v639 : Ref sig .tc := ⟨.hbm, 792, rfl⟩
abbrev main_cst_136 : Ref sig .tc := ⟨.hbm, 793, rfl⟩
abbrev main_v640 : Ref sig .tc := ⟨.hbm, 794, rfl⟩
abbrev main_v641 : Ref sig .tc := ⟨.hbm, 795, rfl⟩
abbrev main_v642 : Ref sig .tc := ⟨.hbm, 796, rfl⟩
abbrev main_v643 : Ref sig .tc := ⟨.hbm, 797, rfl⟩
abbrev main_v644 : Ref sig .tc := ⟨.hbm, 798, rfl⟩
abbrev main_c_137 : Ref sig .tc := ⟨.hbm, 799, rfl⟩
abbrev main_v645 : Ref sig .tc := ⟨.hbm, 800, rfl⟩
abbrev main_v646 : Ref sig .tc := ⟨.hbm, 801, rfl⟩
abbrev main_c_138 : Ref sig .tc := ⟨.hbm, 802, rfl⟩
abbrev main_v647 : Ref sig .tc := ⟨.hbm, 803, rfl⟩
abbrev main_v648 : Ref sig .tc := ⟨.hbm, 804, rfl⟩
abbrev main_v649 : Ref sig .tc := ⟨.hbm, 805, rfl⟩
abbrev main_v650 : Ref sig .tc := ⟨.hbm, 806, rfl⟩
abbrev main_v651 : Ref sig .tc := ⟨.hbm, 807, rfl⟩
abbrev main_v652 : Ref sig .tc := ⟨.hbm, 808, rfl⟩
abbrev main_v653 : Ref sig .tc := ⟨.hbm, 809, rfl⟩
abbrev main_cst_139 : Ref sig .tc := ⟨.hbm, 810, rfl⟩
abbrev main_v654 : Ref sig .tc := ⟨.hbm, 811, rfl⟩
abbrev main_v655 : Ref sig .tc := ⟨.hbm, 812, rfl⟩
abbrev main_v656 : Ref sig .tc := ⟨.hbm, 813, rfl⟩
abbrev main_v657 : Ref sig .tc := ⟨.hbm, 814, rfl⟩
abbrev main_v658 : Ref sig .tc := ⟨.hbm, 815, rfl⟩
abbrev main_c_140 : Ref sig .tc := ⟨.hbm, 816, rfl⟩
abbrev main_v659 : Ref sig .tc := ⟨.hbm, 817, rfl⟩
abbrev main_v660 : Ref sig .tc := ⟨.hbm, 818, rfl⟩
abbrev main_c_141 : Ref sig .tc := ⟨.hbm, 819, rfl⟩
abbrev main_v661 : Ref sig .tc := ⟨.hbm, 820, rfl⟩
abbrev main_v662 : Ref sig .tc := ⟨.hbm, 821, rfl⟩
abbrev main_v663 : Ref sig .tc := ⟨.hbm, 822, rfl⟩
abbrev main_v664 : Ref sig .tc := ⟨.hbm, 823, rfl⟩
abbrev main_v665 : Ref sig .tc := ⟨.hbm, 824, rfl⟩
abbrev main_v666 : Ref sig .tc := ⟨.hbm, 825, rfl⟩
abbrev main_v667 : Ref sig .tc := ⟨.hbm, 826, rfl⟩
abbrev main_cst_142 : Ref sig .tc := ⟨.hbm, 827, rfl⟩
abbrev main_v668 : Ref sig .tc := ⟨.hbm, 828, rfl⟩
abbrev main_v669 : Ref sig .tc := ⟨.hbm, 829, rfl⟩
abbrev main_v670 : Ref sig .tc := ⟨.hbm, 830, rfl⟩
abbrev main_v671 : Ref sig .tc := ⟨.hbm, 831, rfl⟩
abbrev main_v672 : Ref sig .tc := ⟨.hbm, 832, rfl⟩
abbrev main_c_143 : Ref sig .tc := ⟨.hbm, 833, rfl⟩
abbrev main_v673 : Ref sig .tc := ⟨.hbm, 834, rfl⟩
abbrev main_v674 : Ref sig .tc := ⟨.hbm, 835, rfl⟩
abbrev main_c_144 : Ref sig .tc := ⟨.hbm, 836, rfl⟩
abbrev main_v675 : Ref sig .tc := ⟨.hbm, 837, rfl⟩
abbrev main_v676 : Ref sig .tc := ⟨.hbm, 838, rfl⟩
abbrev main_v677 : Ref sig .tc := ⟨.hbm, 839, rfl⟩
abbrev main_v678 : Ref sig .tc := ⟨.hbm, 840, rfl⟩
abbrev main_v679 : Ref sig .tc := ⟨.hbm, 841, rfl⟩
abbrev main_v680 : Ref sig .tc := ⟨.hbm, 842, rfl⟩
abbrev main_v681 : Ref sig .tc := ⟨.hbm, 843, rfl⟩
abbrev main_cst_145 : Ref sig .tc := ⟨.hbm, 844, rfl⟩
abbrev main_v682 : Ref sig .tc := ⟨.hbm, 845, rfl⟩
abbrev main_v683 : Ref sig .tc := ⟨.hbm, 846, rfl⟩
abbrev main_v684 : Ref sig .tc := ⟨.hbm, 847, rfl⟩
abbrev main_v685 : Ref sig .tc := ⟨.hbm, 848, rfl⟩
abbrev main_v686 : Ref sig .tc := ⟨.hbm, 849, rfl⟩
abbrev main_c_146 : Ref sig .tc := ⟨.hbm, 850, rfl⟩
abbrev main_v687 : Ref sig .tc := ⟨.hbm, 851, rfl⟩
abbrev main_v688 : Ref sig .tc := ⟨.hbm, 852, rfl⟩
abbrev main_c_147 : Ref sig .tc := ⟨.hbm, 853, rfl⟩
abbrev main_v689 : Ref sig .tc := ⟨.hbm, 854, rfl⟩
abbrev main_v690 : Ref sig .tc := ⟨.hbm, 855, rfl⟩
abbrev main_v691 : Ref sig .tc := ⟨.hbm, 856, rfl⟩
abbrev main_v692 : Ref sig .tc := ⟨.hbm, 857, rfl⟩
abbrev main_v693 : Ref sig .tc := ⟨.hbm, 858, rfl⟩
abbrev main_v694 : Ref sig .tc := ⟨.hbm, 859, rfl⟩
abbrev main_v695 : Ref sig .tc := ⟨.hbm, 860, rfl⟩
abbrev main_cst_148 : Ref sig .tc := ⟨.hbm, 861, rfl⟩
abbrev main_v696 : Ref sig .tc := ⟨.hbm, 862, rfl⟩
abbrev main_v697 : Ref sig .tc := ⟨.hbm, 863, rfl⟩
abbrev main_v698 : Ref sig .tc := ⟨.hbm, 864, rfl⟩
abbrev main_v699 : Ref sig .tc := ⟨.hbm, 865, rfl⟩
abbrev main_v700 : Ref sig .tc := ⟨.hbm, 866, rfl⟩
abbrev main_c_149 : Ref sig .tc := ⟨.hbm, 867, rfl⟩
abbrev main_v701 : Ref sig .tc := ⟨.hbm, 868, rfl⟩
abbrev main_v702 : Ref sig .tc := ⟨.hbm, 869, rfl⟩
abbrev main_c_150 : Ref sig .tc := ⟨.hbm, 870, rfl⟩
abbrev main_v703 : Ref sig .tc := ⟨.hbm, 871, rfl⟩
abbrev main_v704 : Ref sig .tc := ⟨.hbm, 872, rfl⟩
abbrev main_v705 : Ref sig .tc := ⟨.hbm, 873, rfl⟩
abbrev main_v706 : Ref sig .tc := ⟨.hbm, 874, rfl⟩
abbrev main_v707 : Ref sig .tc := ⟨.hbm, 875, rfl⟩
abbrev main_v708 : Ref sig .tc := ⟨.hbm, 876, rfl⟩
abbrev main_v709 : Ref sig .tc := ⟨.hbm, 877, rfl⟩
abbrev main_cst_151 : Ref sig .tc := ⟨.hbm, 878, rfl⟩
abbrev main_v710 : Ref sig .tc := ⟨.hbm, 879, rfl⟩
abbrev main_v711 : Ref sig .tc := ⟨.hbm, 880, rfl⟩
abbrev main_v712 : Ref sig .tc := ⟨.hbm, 881, rfl⟩
abbrev main_v713 : Ref sig .tc := ⟨.hbm, 882, rfl⟩
abbrev main_v714 : Ref sig .tc := ⟨.hbm, 883, rfl⟩
abbrev main_c_152 : Ref sig .tc := ⟨.hbm, 884, rfl⟩
abbrev main_v715 : Ref sig .tc := ⟨.hbm, 885, rfl⟩
abbrev main_v716 : Ref sig .tc := ⟨.hbm, 886, rfl⟩
abbrev main_c_153 : Ref sig .tc := ⟨.hbm, 887, rfl⟩
abbrev main_v717 : Ref sig .tc := ⟨.hbm, 888, rfl⟩
abbrev main_v718 : Ref sig .tc := ⟨.hbm, 889, rfl⟩
abbrev main_v719 : Ref sig .tc := ⟨.hbm, 890, rfl⟩
abbrev main_v720 : Ref sig .tc := ⟨.hbm, 891, rfl⟩
abbrev main_v721 : Ref sig .tc := ⟨.hbm, 892, rfl⟩
abbrev main_v722 : Ref sig .tc := ⟨.hbm, 893, rfl⟩
abbrev main_v723 : Ref sig .tc := ⟨.hbm, 894, rfl⟩
abbrev main_cst_154 : Ref sig .tc := ⟨.hbm, 895, rfl⟩
abbrev main_v724 : Ref sig .tc := ⟨.hbm, 896, rfl⟩
abbrev main_v725 : Ref sig .tc := ⟨.hbm, 897, rfl⟩
abbrev main_v726 : Ref sig .tc := ⟨.hbm, 898, rfl⟩
abbrev main_v727 : Ref sig .tc := ⟨.hbm, 899, rfl⟩
abbrev main_v728 : Ref sig .tc := ⟨.hbm, 900, rfl⟩
abbrev main_v729 : Ref sig .tc := ⟨.hbm, 901, rfl⟩
abbrev main_cst_155 : Ref sig .tc := ⟨.hbm, 902, rfl⟩
abbrev main_v730 : Ref sig .tc := ⟨.hbm, 903, rfl⟩
abbrev main_v731 : Ref sig .tc := ⟨.hbm, 904, rfl⟩
abbrev main_v732 : Ref sig .tc := ⟨.hbm, 905, rfl⟩
abbrev main_v733 : Ref sig .tc := ⟨.hbm, 906, rfl⟩
abbrev main_v734 : Ref sig .tc := ⟨.hbm, 907, rfl⟩
abbrev main_c_156 : Ref sig .tc := ⟨.hbm, 908, rfl⟩
abbrev main_v735 : Ref sig .tc := ⟨.hbm, 909, rfl⟩
abbrev main_v736 : Ref sig .tc := ⟨.hbm, 910, rfl⟩
abbrev main_c_157 : Ref sig .tc := ⟨.hbm, 911, rfl⟩
abbrev main_v737 : Ref sig .tc := ⟨.hbm, 912, rfl⟩
abbrev main_v738 : Ref sig .tc := ⟨.hbm, 913, rfl⟩
abbrev main_v739 : Ref sig .tc := ⟨.hbm, 914, rfl⟩
abbrev main_v740 : Ref sig .tc := ⟨.hbm, 915, rfl⟩
abbrev main_v741 : Ref sig .tc := ⟨.hbm, 916, rfl⟩
abbrev main_v742 : Ref sig .tc := ⟨.hbm, 917, rfl⟩
abbrev main_v743 : Ref sig .tc := ⟨.hbm, 918, rfl⟩
abbrev main_cst_158 : Ref sig .tc := ⟨.hbm, 919, rfl⟩
abbrev main_v744 : Ref sig .tc := ⟨.hbm, 920, rfl⟩
abbrev main_v745 : Ref sig .tc := ⟨.hbm, 921, rfl⟩
abbrev main_v746 : Ref sig .tc := ⟨.hbm, 922, rfl⟩
abbrev main_v747 : Ref sig .tc := ⟨.hbm, 923, rfl⟩
abbrev main_v748 : Ref sig .tc := ⟨.hbm, 924, rfl⟩
abbrev main_c_159 : Ref sig .tc := ⟨.hbm, 925, rfl⟩
abbrev main_v749 : Ref sig .tc := ⟨.hbm, 926, rfl⟩
abbrev main_v750 : Ref sig .tc := ⟨.hbm, 927, rfl⟩
abbrev main_c_160 : Ref sig .tc := ⟨.hbm, 928, rfl⟩
abbrev main_v751 : Ref sig .tc := ⟨.hbm, 929, rfl⟩
abbrev main_v752 : Ref sig .tc := ⟨.hbm, 930, rfl⟩
abbrev main_v753 : Ref sig .tc := ⟨.hbm, 931, rfl⟩
abbrev main_v754 : Ref sig .tc := ⟨.hbm, 932, rfl⟩
abbrev main_v755 : Ref sig .tc := ⟨.hbm, 933, rfl⟩
abbrev main_v756 : Ref sig .tc := ⟨.hbm, 934, rfl⟩
abbrev main_v757 : Ref sig .tc := ⟨.hbm, 935, rfl⟩
abbrev main_cst_161 : Ref sig .tc := ⟨.hbm, 936, rfl⟩
abbrev main_v758 : Ref sig .tc := ⟨.hbm, 937, rfl⟩
abbrev main_v759 : Ref sig .tc := ⟨.hbm, 938, rfl⟩
abbrev main_v760 : Ref sig .tc := ⟨.hbm, 939, rfl⟩
abbrev main_v761 : Ref sig .tc := ⟨.hbm, 940, rfl⟩
abbrev main_v762 : Ref sig .tc := ⟨.hbm, 941, rfl⟩
abbrev main_c_162 : Ref sig .tc := ⟨.hbm, 942, rfl⟩
abbrev main_v763 : Ref sig .tc := ⟨.hbm, 943, rfl⟩
abbrev main_v764 : Ref sig .tc := ⟨.hbm, 944, rfl⟩
abbrev main_c_163 : Ref sig .tc := ⟨.hbm, 945, rfl⟩
abbrev main_v765 : Ref sig .tc := ⟨.hbm, 946, rfl⟩
abbrev main_v766 : Ref sig .tc := ⟨.hbm, 947, rfl⟩
abbrev main_v767 : Ref sig .tc := ⟨.hbm, 948, rfl⟩
abbrev main_v768 : Ref sig .tc := ⟨.hbm, 949, rfl⟩
abbrev main_v769 : Ref sig .tc := ⟨.hbm, 950, rfl⟩
abbrev main_v770 : Ref sig .tc := ⟨.hbm, 951, rfl⟩
abbrev main_v771 : Ref sig .tc := ⟨.hbm, 952, rfl⟩
abbrev main_cst_164 : Ref sig .tc := ⟨.hbm, 953, rfl⟩
abbrev main_v772 : Ref sig .tc := ⟨.hbm, 954, rfl⟩
abbrev main_v773 : Ref sig .tc := ⟨.hbm, 955, rfl⟩
abbrev main_v774 : Ref sig .tc := ⟨.hbm, 956, rfl⟩
abbrev main_v775 : Ref sig .tc := ⟨.hbm, 957, rfl⟩
abbrev main_v776 : Ref sig .tc := ⟨.hbm, 958, rfl⟩
abbrev main_c_165 : Ref sig .tc := ⟨.hbm, 959, rfl⟩
abbrev main_v777 : Ref sig .tc := ⟨.hbm, 960, rfl⟩
abbrev main_v778 : Ref sig .tc := ⟨.hbm, 961, rfl⟩
abbrev main_c_166 : Ref sig .tc := ⟨.hbm, 962, rfl⟩
abbrev main_v779 : Ref sig .tc := ⟨.hbm, 963, rfl⟩
abbrev main_v780 : Ref sig .tc := ⟨.hbm, 964, rfl⟩
abbrev main_v781 : Ref sig .tc := ⟨.hbm, 965, rfl⟩
abbrev main_v782 : Ref sig .tc := ⟨.hbm, 966, rfl⟩
abbrev main_v783 : Ref sig .tc := ⟨.hbm, 967, rfl⟩
abbrev main_v784 : Ref sig .tc := ⟨.hbm, 968, rfl⟩
abbrev main_v785 : Ref sig .tc := ⟨.hbm, 969, rfl⟩
abbrev main_cst_167 : Ref sig .tc := ⟨.hbm, 970, rfl⟩
abbrev main_v786 : Ref sig .tc := ⟨.hbm, 971, rfl⟩
abbrev main_v787 : Ref sig .tc := ⟨.hbm, 972, rfl⟩
abbrev main_v788 : Ref sig .tc := ⟨.hbm, 973, rfl⟩
abbrev main_v789 : Ref sig .tc := ⟨.hbm, 974, rfl⟩
abbrev main_v790 : Ref sig .tc := ⟨.hbm, 975, rfl⟩
abbrev main_c_168 : Ref sig .tc := ⟨.hbm, 976, rfl⟩
abbrev main_v791 : Ref sig .tc := ⟨.hbm, 977, rfl⟩
abbrev main_v792 : Ref sig .tc := ⟨.hbm, 978, rfl⟩
abbrev main_c_169 : Ref sig .tc := ⟨.hbm, 979, rfl⟩
abbrev main_v793 : Ref sig .tc := ⟨.hbm, 980, rfl⟩
abbrev main_v794 : Ref sig .tc := ⟨.hbm, 981, rfl⟩
abbrev main_v795 : Ref sig .tc := ⟨.hbm, 982, rfl⟩
abbrev main_v796 : Ref sig .tc := ⟨.hbm, 983, rfl⟩
abbrev main_v797 : Ref sig .tc := ⟨.hbm, 984, rfl⟩
abbrev main_v798 : Ref sig .tc := ⟨.hbm, 985, rfl⟩
abbrev main_v799 : Ref sig .tc := ⟨.hbm, 986, rfl⟩
abbrev main_cst_170 : Ref sig .tc := ⟨.hbm, 987, rfl⟩
abbrev main_v800 : Ref sig .tc := ⟨.hbm, 988, rfl⟩
abbrev main_v801 : Ref sig .tc := ⟨.hbm, 989, rfl⟩
abbrev main_v802 : Ref sig .tc := ⟨.hbm, 990, rfl⟩
abbrev main_v803 : Ref sig .tc := ⟨.hbm, 991, rfl⟩
abbrev main_v804 : Ref sig .tc := ⟨.hbm, 992, rfl⟩
abbrev main_c_171 : Ref sig .tc := ⟨.hbm, 993, rfl⟩
abbrev main_v805 : Ref sig .tc := ⟨.hbm, 994, rfl⟩
abbrev main_v806 : Ref sig .tc := ⟨.hbm, 995, rfl⟩
abbrev main_c_172 : Ref sig .tc := ⟨.hbm, 996, rfl⟩
abbrev main_v807 : Ref sig .tc := ⟨.hbm, 997, rfl⟩
abbrev main_v808 : Ref sig .tc := ⟨.hbm, 998, rfl⟩
abbrev main_v809 : Ref sig .tc := ⟨.hbm, 999, rfl⟩
abbrev main_v810 : Ref sig .tc := ⟨.hbm, 1000, rfl⟩
abbrev main_v811 : Ref sig .tc := ⟨.hbm, 1001, rfl⟩
abbrev main_v812 : Ref sig .tc := ⟨.hbm, 1002, rfl⟩
abbrev main_v813 : Ref sig .tc := ⟨.hbm, 1003, rfl⟩
abbrev main_cst_173 : Ref sig .tc := ⟨.hbm, 1004, rfl⟩
abbrev main_v814 : Ref sig .tc := ⟨.hbm, 1005, rfl⟩
abbrev main_v815 : Ref sig .tc := ⟨.hbm, 1006, rfl⟩
abbrev main_v816 : Ref sig .tc := ⟨.hbm, 1007, rfl⟩
abbrev main_v817 : Ref sig .tc := ⟨.hbm, 1008, rfl⟩
abbrev main_v818 : Ref sig .tc := ⟨.hbm, 1009, rfl⟩
abbrev main_c_174 : Ref sig .tc := ⟨.hbm, 1010, rfl⟩
abbrev main_v819 : Ref sig .tc := ⟨.hbm, 1011, rfl⟩
abbrev main_v820 : Ref sig .tc := ⟨.hbm, 1012, rfl⟩
abbrev main_c_175 : Ref sig .tc := ⟨.hbm, 1013, rfl⟩
abbrev main_v821 : Ref sig .tc := ⟨.hbm, 1014, rfl⟩
abbrev main_v822 : Ref sig .tc := ⟨.hbm, 1015, rfl⟩
abbrev main_v823 : Ref sig .tc := ⟨.hbm, 1016, rfl⟩
abbrev main_v824 : Ref sig .tc := ⟨.hbm, 1017, rfl⟩
abbrev main_v825 : Ref sig .tc := ⟨.hbm, 1018, rfl⟩
abbrev main_v826 : Ref sig .tc := ⟨.hbm, 1019, rfl⟩
abbrev main_v827 : Ref sig .tc := ⟨.hbm, 1020, rfl⟩
abbrev main_cst_176 : Ref sig .tc := ⟨.hbm, 1021, rfl⟩
abbrev main_v828 : Ref sig .tc := ⟨.hbm, 1022, rfl⟩
abbrev main_v829 : Ref sig .tc := ⟨.hbm, 1023, rfl⟩
abbrev main_v830 : Ref sig .tc := ⟨.hbm, 1024, rfl⟩
abbrev main_v831 : Ref sig .tc := ⟨.hbm, 1025, rfl⟩
abbrev main_v832 : Ref sig .tc := ⟨.hbm, 1026, rfl⟩
abbrev main_c_177 : Ref sig .tc := ⟨.hbm, 1027, rfl⟩
abbrev main_v833 : Ref sig .tc := ⟨.hbm, 1028, rfl⟩
abbrev main_v834 : Ref sig .tc := ⟨.hbm, 1029, rfl⟩
abbrev main_c_178 : Ref sig .tc := ⟨.hbm, 1030, rfl⟩
abbrev main_v835 : Ref sig .tc := ⟨.hbm, 1031, rfl⟩
abbrev main_v836 : Ref sig .tc := ⟨.hbm, 1032, rfl⟩
abbrev main_v837 : Ref sig .tc := ⟨.hbm, 1033, rfl⟩
abbrev main_v838 : Ref sig .tc := ⟨.hbm, 1034, rfl⟩
abbrev main_v839 : Ref sig .tc := ⟨.hbm, 1035, rfl⟩
abbrev main_v840 : Ref sig .tc := ⟨.hbm, 1036, rfl⟩
abbrev main_v841 : Ref sig .tc := ⟨.hbm, 1037, rfl⟩
abbrev main_cst_179 : Ref sig .tc := ⟨.hbm, 1038, rfl⟩
abbrev main_v842 : Ref sig .tc := ⟨.hbm, 1039, rfl⟩
abbrev main_v843 : Ref sig .tc := ⟨.hbm, 1040, rfl⟩
abbrev main_v844 : Ref sig .tc := ⟨.hbm, 1041, rfl⟩
abbrev main_v845 : Ref sig .tc := ⟨.hbm, 1042, rfl⟩
abbrev main_v846 : Ref sig .tc := ⟨.hbm, 1043, rfl⟩
abbrev main_c_180 : Ref sig .tc := ⟨.hbm, 1044, rfl⟩
abbrev main_v847 : Ref sig .tc := ⟨.hbm, 1045, rfl⟩
abbrev main_v848 : Ref sig .tc := ⟨.hbm, 1046, rfl⟩
abbrev main_c_181 : Ref sig .tc := ⟨.hbm, 1047, rfl⟩
abbrev main_v849 : Ref sig .tc := ⟨.hbm, 1048, rfl⟩
abbrev main_v850 : Ref sig .tc := ⟨.hbm, 1049, rfl⟩
abbrev main_v851 : Ref sig .tc := ⟨.hbm, 1050, rfl⟩
abbrev main_v852 : Ref sig .tc := ⟨.hbm, 1051, rfl⟩
abbrev main_v853 : Ref sig .tc := ⟨.hbm, 1052, rfl⟩
abbrev main_v854 : Ref sig .tc := ⟨.hbm, 1053, rfl⟩
abbrev main_v855 : Ref sig .tc := ⟨.hbm, 1054, rfl⟩
abbrev main_cst_182 : Ref sig .tc := ⟨.hbm, 1055, rfl⟩
abbrev main_v856 : Ref sig .tc := ⟨.hbm, 1056, rfl⟩
abbrev main_v857 : Ref sig .tc := ⟨.hbm, 1057, rfl⟩
abbrev main_v858 : Ref sig .tc := ⟨.hbm, 1058, rfl⟩
abbrev main_v859 : Ref sig .tc := ⟨.hbm, 1059, rfl⟩
abbrev main_v860 : Ref sig .tc := ⟨.hbm, 1060, rfl⟩
abbrev main_v861 : Ref sig .tc := ⟨.hbm, 1061, rfl⟩
abbrev main_cst_183 : Ref sig .tc := ⟨.hbm, 1062, rfl⟩
abbrev main_v862 : Ref sig .tc := ⟨.hbm, 1063, rfl⟩
abbrev main_v863 : Ref sig .tc := ⟨.hbm, 1064, rfl⟩
abbrev main_v864 : Ref sig .tc := ⟨.hbm, 1065, rfl⟩
abbrev main_v865 : Ref sig .tc := ⟨.hbm, 1066, rfl⟩
abbrev main_v866 : Ref sig .tc := ⟨.hbm, 1067, rfl⟩
abbrev main_c_184 : Ref sig .tc := ⟨.hbm, 1068, rfl⟩
abbrev main_v867 : Ref sig .tc := ⟨.hbm, 1069, rfl⟩
abbrev main_v868 : Ref sig .tc := ⟨.hbm, 1070, rfl⟩
abbrev main_c_185 : Ref sig .tc := ⟨.hbm, 1071, rfl⟩
abbrev main_v869 : Ref sig .tc := ⟨.hbm, 1072, rfl⟩
abbrev main_v870 : Ref sig .tc := ⟨.hbm, 1073, rfl⟩
abbrev main_v871 : Ref sig .tc := ⟨.hbm, 1074, rfl⟩
abbrev main_v872 : Ref sig .tc := ⟨.hbm, 1075, rfl⟩
abbrev main_v873 : Ref sig .tc := ⟨.hbm, 1076, rfl⟩
abbrev main_v874 : Ref sig .tc := ⟨.hbm, 1077, rfl⟩
abbrev main_v875 : Ref sig .tc := ⟨.hbm, 1078, rfl⟩
abbrev main_cst_186 : Ref sig .tc := ⟨.hbm, 1079, rfl⟩
abbrev main_v876 : Ref sig .tc := ⟨.hbm, 1080, rfl⟩
abbrev main_v877 : Ref sig .tc := ⟨.hbm, 1081, rfl⟩
abbrev main_v878 : Ref sig .tc := ⟨.hbm, 1082, rfl⟩
abbrev main_v879 : Ref sig .tc := ⟨.hbm, 1083, rfl⟩
abbrev main_v880 : Ref sig .tc := ⟨.hbm, 1084, rfl⟩
abbrev main_c_187 : Ref sig .tc := ⟨.hbm, 1085, rfl⟩
abbrev main_v881 : Ref sig .tc := ⟨.hbm, 1086, rfl⟩
abbrev main_v882 : Ref sig .tc := ⟨.hbm, 1087, rfl⟩
abbrev main_c_188 : Ref sig .tc := ⟨.hbm, 1088, rfl⟩
abbrev main_v883 : Ref sig .tc := ⟨.hbm, 1089, rfl⟩
abbrev main_v884 : Ref sig .tc := ⟨.hbm, 1090, rfl⟩
abbrev main_v885 : Ref sig .tc := ⟨.hbm, 1091, rfl⟩
abbrev main_v886 : Ref sig .tc := ⟨.hbm, 1092, rfl⟩
abbrev main_v887 : Ref sig .tc := ⟨.hbm, 1093, rfl⟩
abbrev main_v888 : Ref sig .tc := ⟨.hbm, 1094, rfl⟩
abbrev main_v889 : Ref sig .tc := ⟨.hbm, 1095, rfl⟩
abbrev main_cst_189 : Ref sig .tc := ⟨.hbm, 1096, rfl⟩
abbrev main_v890 : Ref sig .tc := ⟨.hbm, 1097, rfl⟩
abbrev main_v891 : Ref sig .tc := ⟨.hbm, 1098, rfl⟩
abbrev main_v892 : Ref sig .tc := ⟨.hbm, 1099, rfl⟩
abbrev main_v893 : Ref sig .tc := ⟨.hbm, 1100, rfl⟩
abbrev main_v894 : Ref sig .tc := ⟨.hbm, 1101, rfl⟩
abbrev main_c_190 : Ref sig .tc := ⟨.hbm, 1102, rfl⟩
abbrev main_v895 : Ref sig .tc := ⟨.hbm, 1103, rfl⟩
abbrev main_v896 : Ref sig .tc := ⟨.hbm, 1104, rfl⟩
abbrev main_c_191 : Ref sig .tc := ⟨.hbm, 1105, rfl⟩
abbrev main_v897 : Ref sig .tc := ⟨.hbm, 1106, rfl⟩
abbrev main_v898 : Ref sig .tc := ⟨.hbm, 1107, rfl⟩
abbrev main_v899 : Ref sig .tc := ⟨.hbm, 1108, rfl⟩
abbrev main_v900 : Ref sig .tc := ⟨.hbm, 1109, rfl⟩
abbrev main_v901 : Ref sig .tc := ⟨.hbm, 1110, rfl⟩
abbrev main_v902 : Ref sig .tc := ⟨.hbm, 1111, rfl⟩
abbrev main_v903 : Ref sig .tc := ⟨.hbm, 1112, rfl⟩
abbrev main_cst_192 : Ref sig .tc := ⟨.hbm, 1113, rfl⟩
abbrev main_v904 : Ref sig .tc := ⟨.hbm, 1114, rfl⟩
abbrev main_v905 : Ref sig .tc := ⟨.hbm, 1115, rfl⟩
abbrev main_v906 : Ref sig .tc := ⟨.hbm, 1116, rfl⟩
abbrev main_v907 : Ref sig .tc := ⟨.hbm, 1117, rfl⟩
abbrev main_v908 : Ref sig .tc := ⟨.hbm, 1118, rfl⟩
abbrev main_c_193 : Ref sig .tc := ⟨.hbm, 1119, rfl⟩
abbrev main_v909 : Ref sig .tc := ⟨.hbm, 1120, rfl⟩
abbrev main_v910 : Ref sig .tc := ⟨.hbm, 1121, rfl⟩
abbrev main_c_194 : Ref sig .tc := ⟨.hbm, 1122, rfl⟩
abbrev main_v911 : Ref sig .tc := ⟨.hbm, 1123, rfl⟩
abbrev main_v912 : Ref sig .tc := ⟨.hbm, 1124, rfl⟩
abbrev main_v913 : Ref sig .tc := ⟨.hbm, 1125, rfl⟩
abbrev main_v914 : Ref sig .tc := ⟨.hbm, 1126, rfl⟩
abbrev main_v915 : Ref sig .tc := ⟨.hbm, 1127, rfl⟩
abbrev main_v916 : Ref sig .tc := ⟨.hbm, 1128, rfl⟩
abbrev main_v917 : Ref sig .tc := ⟨.hbm, 1129, rfl⟩
abbrev main_cst_195 : Ref sig .tc := ⟨.hbm, 1130, rfl⟩
abbrev main_v918 : Ref sig .tc := ⟨.hbm, 1131, rfl⟩
abbrev main_v919 : Ref sig .tc := ⟨.hbm, 1132, rfl⟩
abbrev main_v920 : Ref sig .tc := ⟨.hbm, 1133, rfl⟩
abbrev main_v921 : Ref sig .tc := ⟨.hbm, 1134, rfl⟩
abbrev main_v922 : Ref sig .tc := ⟨.hbm, 1135, rfl⟩
abbrev main_c_196 : Ref sig .tc := ⟨.hbm, 1136, rfl⟩
abbrev main_v923 : Ref sig .tc := ⟨.hbm, 1137, rfl⟩
abbrev main_v924 : Ref sig .tc := ⟨.hbm, 1138, rfl⟩
abbrev main_c_197 : Ref sig .tc := ⟨.hbm, 1139, rfl⟩
abbrev main_v925 : Ref sig .tc := ⟨.hbm, 1140, rfl⟩
abbrev main_v926 : Ref sig .tc := ⟨.hbm, 1141, rfl⟩
abbrev main_v927 : Ref sig .tc := ⟨.hbm, 1142, rfl⟩
abbrev main_v928 : Ref sig .tc := ⟨.hbm, 1143, rfl⟩
abbrev main_v929 : Ref sig .tc := ⟨.hbm, 1144, rfl⟩
abbrev main_v930 : Ref sig .tc := ⟨.hbm, 1145, rfl⟩
abbrev main_v931 : Ref sig .tc := ⟨.hbm, 1146, rfl⟩
abbrev main_cst_198 : Ref sig .tc := ⟨.hbm, 1147, rfl⟩
abbrev main_v932 : Ref sig .tc := ⟨.hbm, 1148, rfl⟩
abbrev main_v933 : Ref sig .tc := ⟨.hbm, 1149, rfl⟩
abbrev main_v934 : Ref sig .tc := ⟨.hbm, 1150, rfl⟩
abbrev main_v935 : Ref sig .tc := ⟨.hbm, 1151, rfl⟩
abbrev main_v936 : Ref sig .tc := ⟨.hbm, 1152, rfl⟩
abbrev main_c_199 : Ref sig .tc := ⟨.hbm, 1153, rfl⟩
abbrev main_v937 : Ref sig .tc := ⟨.hbm, 1154, rfl⟩
abbrev main_v938 : Ref sig .tc := ⟨.hbm, 1155, rfl⟩
abbrev main_c_200 : Ref sig .tc := ⟨.hbm, 1156, rfl⟩
abbrev main_v939 : Ref sig .tc := ⟨.hbm, 1157, rfl⟩
abbrev main_v940 : Ref sig .tc := ⟨.hbm, 1158, rfl⟩
abbrev main_v941 : Ref sig .tc := ⟨.hbm, 1159, rfl⟩
abbrev main_v942 : Ref sig .tc := ⟨.hbm, 1160, rfl⟩
abbrev main_v943 : Ref sig .tc := ⟨.hbm, 1161, rfl⟩
abbrev main_v944 : Ref sig .tc := ⟨.hbm, 1162, rfl⟩
abbrev main_v945 : Ref sig .tc := ⟨.hbm, 1163, rfl⟩
abbrev main_cst_201 : Ref sig .tc := ⟨.hbm, 1164, rfl⟩
abbrev main_v946 : Ref sig .tc := ⟨.hbm, 1165, rfl⟩
abbrev main_v947 : Ref sig .tc := ⟨.hbm, 1166, rfl⟩
abbrev main_v948 : Ref sig .tc := ⟨.hbm, 1167, rfl⟩
abbrev main_v949 : Ref sig .tc := ⟨.hbm, 1168, rfl⟩
abbrev main_v950 : Ref sig .tc := ⟨.hbm, 1169, rfl⟩
abbrev main_c_202 : Ref sig .tc := ⟨.hbm, 1170, rfl⟩
abbrev main_v951 : Ref sig .tc := ⟨.hbm, 1171, rfl⟩
abbrev main_v952 : Ref sig .tc := ⟨.hbm, 1172, rfl⟩
abbrev main_c_203 : Ref sig .tc := ⟨.hbm, 1173, rfl⟩
abbrev main_v953 : Ref sig .tc := ⟨.hbm, 1174, rfl⟩
abbrev main_v954 : Ref sig .tc := ⟨.hbm, 1175, rfl⟩
abbrev main_v955 : Ref sig .tc := ⟨.hbm, 1176, rfl⟩
abbrev main_v956 : Ref sig .tc := ⟨.hbm, 1177, rfl⟩
abbrev main_v957 : Ref sig .tc := ⟨.hbm, 1178, rfl⟩
abbrev main_v958 : Ref sig .tc := ⟨.hbm, 1179, rfl⟩
abbrev main_v959 : Ref sig .tc := ⟨.hbm, 1180, rfl⟩
abbrev main_cst_204 : Ref sig .tc := ⟨.hbm, 1181, rfl⟩
abbrev main_v960 : Ref sig .tc := ⟨.hbm, 1182, rfl⟩
abbrev main_v961 : Ref sig .tc := ⟨.hbm, 1183, rfl⟩
abbrev main_v962 : Ref sig .tc := ⟨.hbm, 1184, rfl⟩
abbrev main_v963 : Ref sig .tc := ⟨.hbm, 1185, rfl⟩
abbrev main_v964 : Ref sig .tc := ⟨.hbm, 1186, rfl⟩
abbrev main_c_205 : Ref sig .tc := ⟨.hbm, 1187, rfl⟩
abbrev main_v965 : Ref sig .tc := ⟨.hbm, 1188, rfl⟩
abbrev main_v966 : Ref sig .tc := ⟨.hbm, 1189, rfl⟩
abbrev main_c_206 : Ref sig .tc := ⟨.hbm, 1190, rfl⟩
abbrev main_v967 : Ref sig .tc := ⟨.hbm, 1191, rfl⟩
abbrev main_v968 : Ref sig .tc := ⟨.hbm, 1192, rfl⟩
abbrev main_v969 : Ref sig .tc := ⟨.hbm, 1193, rfl⟩
abbrev main_v970 : Ref sig .tc := ⟨.hbm, 1194, rfl⟩
abbrev main_v971 : Ref sig .tc := ⟨.hbm, 1195, rfl⟩
abbrev main_v972 : Ref sig .tc := ⟨.hbm, 1196, rfl⟩
abbrev main_v973 : Ref sig .tc := ⟨.hbm, 1197, rfl⟩
abbrev main_cst_207 : Ref sig .tc := ⟨.hbm, 1198, rfl⟩
abbrev main_v974 : Ref sig .tc := ⟨.hbm, 1199, rfl⟩
abbrev main_v975 : Ref sig .tc := ⟨.hbm, 1200, rfl⟩
abbrev main_v976 : Ref sig .tc := ⟨.hbm, 1201, rfl⟩
abbrev main_v977 : Ref sig .tc := ⟨.hbm, 1202, rfl⟩
abbrev main_v978 : Ref sig .tc := ⟨.hbm, 1203, rfl⟩
abbrev main_c_208 : Ref sig .tc := ⟨.hbm, 1204, rfl⟩
abbrev main_v979 : Ref sig .tc := ⟨.hbm, 1205, rfl⟩
abbrev main_v980 : Ref sig .tc := ⟨.hbm, 1206, rfl⟩
abbrev main_c_209 : Ref sig .tc := ⟨.hbm, 1207, rfl⟩
abbrev main_v981 : Ref sig .tc := ⟨.hbm, 1208, rfl⟩
abbrev main_v982 : Ref sig .tc := ⟨.hbm, 1209, rfl⟩
abbrev main_v983 : Ref sig .tc := ⟨.hbm, 1210, rfl⟩
abbrev main_v984 : Ref sig .tc := ⟨.hbm, 1211, rfl⟩
abbrev main_v985 : Ref sig .tc := ⟨.hbm, 1212, rfl⟩
abbrev main_v986 : Ref sig .tc := ⟨.hbm, 1213, rfl⟩
abbrev main_v987 : Ref sig .tc := ⟨.hbm, 1214, rfl⟩
abbrev main_cst_210 : Ref sig .tc := ⟨.hbm, 1215, rfl⟩
abbrev main_v988 : Ref sig .tc := ⟨.hbm, 1216, rfl⟩
abbrev main_v989 : Ref sig .tc := ⟨.hbm, 1217, rfl⟩
abbrev main_v990 : Ref sig .tc := ⟨.hbm, 1218, rfl⟩
abbrev main_v991 : Ref sig .tc := ⟨.hbm, 1219, rfl⟩
abbrev main_v992 : Ref sig .tc := ⟨.hbm, 1220, rfl⟩
abbrev main_c_211 : Ref sig .tc := ⟨.hbm, 1221, rfl⟩
abbrev main_v993 : Ref sig .tc := ⟨.hbm, 1222, rfl⟩
abbrev main_v994 : Ref sig .tc := ⟨.hbm, 1223, rfl⟩
abbrev main_c_212 : Ref sig .tc := ⟨.hbm, 1224, rfl⟩
abbrev main_v995 : Ref sig .tc := ⟨.hbm, 1225, rfl⟩
abbrev main_v996 : Ref sig .tc := ⟨.hbm, 1226, rfl⟩
abbrev main_v997 : Ref sig .tc := ⟨.hbm, 1227, rfl⟩
abbrev main_v998 : Ref sig .tc := ⟨.hbm, 1228, rfl⟩
abbrev main_v999 : Ref sig .tc := ⟨.hbm, 1229, rfl⟩
abbrev main_v1000 : Ref sig .tc := ⟨.hbm, 1230, rfl⟩
abbrev main_v1001 : Ref sig .tc := ⟨.hbm, 1231, rfl⟩
abbrev main_cst_213 : Ref sig .tc := ⟨.hbm, 1232, rfl⟩
abbrev main_v1002 : Ref sig .tc := ⟨.hbm, 1233, rfl⟩
abbrev main_v1003 : Ref sig .tc := ⟨.hbm, 1234, rfl⟩
abbrev main_v1004 : Ref sig .tc := ⟨.hbm, 1235, rfl⟩
abbrev main_v1005 : Ref sig .tc := ⟨.hbm, 1236, rfl⟩
abbrev main_v1006 : Ref sig .tc := ⟨.hbm, 1237, rfl⟩
abbrev main_v1007 : Ref sig .tc := ⟨.hbm, 1238, rfl⟩
abbrev main_cst_214 : Ref sig .tc := ⟨.hbm, 1239, rfl⟩
abbrev main_v1008 : Ref sig .tc := ⟨.hbm, 1240, rfl⟩
abbrev main_v1009 : Ref sig .tc := ⟨.hbm, 1241, rfl⟩
abbrev main_v1010 : Ref sig .tc := ⟨.hbm, 1242, rfl⟩
abbrev main_v1011 : Ref sig .tc := ⟨.hbm, 1243, rfl⟩
abbrev main_call3_cst : Ref sig .tc := ⟨.hbm, 1244, rfl⟩
abbrev main_call3_v0 : Ref sig .tc := ⟨.hbm, 1245, rfl⟩
abbrev main_v1012 : Ref sig .tc := ⟨.hbm, 1246, rfl⟩
abbrev main_v1013 : Ref sig .tc := ⟨.hbm, 1247, rfl⟩
abbrev main_v1014 : Ref sig .tc := ⟨.hbm, 1248, rfl⟩
abbrev main_v1015 : Ref sig .tc := ⟨.hbm, 1249, rfl⟩
abbrev main_v1016 : Ref sig .tc := ⟨.hbm, 1250, rfl⟩
abbrev main_call4_cst : Ref sig .tc := ⟨.hbm, 1251, rfl⟩
abbrev main_call4_v0 : Ref sig .tc := ⟨.hbm, 1252, rfl⟩
abbrev main_v1017 : Ref sig .tc := ⟨.hbm, 1253, rfl⟩
abbrev main_v1018 : Ref sig .tc := ⟨.hbm, 1254, rfl⟩
abbrev main_c_215 : Ref sig .tc := ⟨.hbm, 1255, rfl⟩
abbrev main_v1019 : Ref sig .tc := ⟨.hbm, 1256, rfl⟩
abbrev main_v1020 : Ref sig .tc := ⟨.hbm, 1257, rfl⟩
abbrev main_c_216 : Ref sig .tc := ⟨.hbm, 1258, rfl⟩
abbrev main_v1021 : Ref sig .tc := ⟨.hbm, 1259, rfl⟩
abbrev main_v1022 : Ref sig .tc := ⟨.hbm, 1260, rfl⟩
abbrev main_v1023 : Ref sig .tc := ⟨.hbm, 1261, rfl⟩
abbrev main_v1024 : Ref sig .tc := ⟨.hbm, 1262, rfl⟩
abbrev main_v1025 : Ref sig .tc := ⟨.hbm, 1263, rfl⟩
abbrev main_v1026 : Ref sig .tc := ⟨.hbm, 1264, rfl⟩
abbrev main_v1027 : Ref sig .tc := ⟨.hbm, 1265, rfl⟩
abbrev main_cst_217 : Ref sig .tc := ⟨.hbm, 1266, rfl⟩
abbrev main_v1028 : Ref sig .tc := ⟨.hbm, 1267, rfl⟩
abbrev main_v1029 : Ref sig .tc := ⟨.hbm, 1268, rfl⟩
abbrev main_v1030 : Ref sig .tc := ⟨.hbm, 1269, rfl⟩
abbrev main_v1031 : Ref sig .tc := ⟨.hbm, 1270, rfl⟩
abbrev main_v1032 : Ref sig .tc := ⟨.hbm, 1271, rfl⟩
abbrev main_c_218 : Ref sig .tc := ⟨.hbm, 1272, rfl⟩
abbrev main_v1033 : Ref sig .tc := ⟨.hbm, 1273, rfl⟩
abbrev main_v1034 : Ref sig .tc := ⟨.hbm, 1274, rfl⟩
abbrev main_c_219 : Ref sig .tc := ⟨.hbm, 1275, rfl⟩
abbrev main_v1035 : Ref sig .tc := ⟨.hbm, 1276, rfl⟩
abbrev main_v1036 : Ref sig .tc := ⟨.hbm, 1277, rfl⟩
abbrev main_v1037 : Ref sig .tc := ⟨.hbm, 1278, rfl⟩
abbrev main_v1038 : Ref sig .tc := ⟨.hbm, 1279, rfl⟩
abbrev main_v1039 : Ref sig .tc := ⟨.hbm, 1280, rfl⟩
abbrev main_v1040 : Ref sig .tc := ⟨.hbm, 1281, rfl⟩
abbrev main_v1041 : Ref sig .tc := ⟨.hbm, 1282, rfl⟩
abbrev main_cst_220 : Ref sig .tc := ⟨.hbm, 1283, rfl⟩
abbrev main_v1042 : Ref sig .tc := ⟨.hbm, 1284, rfl⟩
abbrev main_v1043 : Ref sig .tc := ⟨.hbm, 1285, rfl⟩
abbrev main_v1044 : Ref sig .tc := ⟨.hbm, 1286, rfl⟩
abbrev main_v1045 : Ref sig .tc := ⟨.hbm, 1287, rfl⟩
abbrev main_v1046 : Ref sig .tc := ⟨.hbm, 1288, rfl⟩
abbrev main_c_221 : Ref sig .tc := ⟨.hbm, 1289, rfl⟩
abbrev main_v1047 : Ref sig .tc := ⟨.hbm, 1290, rfl⟩
abbrev main_v1048 : Ref sig .tc := ⟨.hbm, 1291, rfl⟩
abbrev main_c_222 : Ref sig .tc := ⟨.hbm, 1292, rfl⟩
abbrev main_v1049 : Ref sig .tc := ⟨.hbm, 1293, rfl⟩
abbrev main_v1050 : Ref sig .tc := ⟨.hbm, 1294, rfl⟩
abbrev main_v1051 : Ref sig .tc := ⟨.hbm, 1295, rfl⟩
abbrev main_v1052 : Ref sig .tc := ⟨.hbm, 1296, rfl⟩
abbrev main_v1053 : Ref sig .tc := ⟨.hbm, 1297, rfl⟩
abbrev main_v1054 : Ref sig .tc := ⟨.hbm, 1298, rfl⟩
abbrev main_v1055 : Ref sig .tc := ⟨.hbm, 1299, rfl⟩
abbrev main_cst_223 : Ref sig .tc := ⟨.hbm, 1300, rfl⟩
abbrev main_v1056 : Ref sig .tc := ⟨.hbm, 1301, rfl⟩
abbrev main_v1057 : Ref sig .tc := ⟨.hbm, 1302, rfl⟩
abbrev main_v1058 : Ref sig .tc := ⟨.hbm, 1303, rfl⟩
abbrev main_v1059 : Ref sig .tc := ⟨.hbm, 1304, rfl⟩
abbrev main_v1060 : Ref sig .tc := ⟨.hbm, 1305, rfl⟩
abbrev main_c_224 : Ref sig .tc := ⟨.hbm, 1306, rfl⟩
abbrev main_v1061 : Ref sig .tc := ⟨.hbm, 1307, rfl⟩
abbrev main_v1062 : Ref sig .tc := ⟨.hbm, 1308, rfl⟩
abbrev main_c_225 : Ref sig .tc := ⟨.hbm, 1309, rfl⟩
abbrev main_v1063 : Ref sig .tc := ⟨.hbm, 1310, rfl⟩
abbrev main_v1064 : Ref sig .tc := ⟨.hbm, 1311, rfl⟩
abbrev main_v1065 : Ref sig .tc := ⟨.hbm, 1312, rfl⟩
abbrev main_v1066 : Ref sig .tc := ⟨.hbm, 1313, rfl⟩
abbrev main_v1067 : Ref sig .tc := ⟨.hbm, 1314, rfl⟩
abbrev main_v1068 : Ref sig .tc := ⟨.hbm, 1315, rfl⟩
abbrev main_v1069 : Ref sig .tc := ⟨.hbm, 1316, rfl⟩
abbrev main_cst_226 : Ref sig .tc := ⟨.hbm, 1317, rfl⟩
abbrev main_v1070 : Ref sig .tc := ⟨.hbm, 1318, rfl⟩
abbrev main_v1071 : Ref sig .tc := ⟨.hbm, 1319, rfl⟩
abbrev main_v1072 : Ref sig .tc := ⟨.hbm, 1320, rfl⟩
abbrev main_v1073 : Ref sig .tc := ⟨.hbm, 1321, rfl⟩
abbrev main_v1074 : Ref sig .tc := ⟨.hbm, 1322, rfl⟩
abbrev main_c_227 : Ref sig .tc := ⟨.hbm, 1323, rfl⟩
abbrev main_v1075 : Ref sig .tc := ⟨.hbm, 1324, rfl⟩
abbrev main_v1076 : Ref sig .tc := ⟨.hbm, 1325, rfl⟩
abbrev main_c_228 : Ref sig .tc := ⟨.hbm, 1326, rfl⟩
abbrev main_v1077 : Ref sig .tc := ⟨.hbm, 1327, rfl⟩
abbrev main_v1078 : Ref sig .tc := ⟨.hbm, 1328, rfl⟩
abbrev main_v1079 : Ref sig .tc := ⟨.hbm, 1329, rfl⟩
abbrev main_v1080 : Ref sig .tc := ⟨.hbm, 1330, rfl⟩
abbrev main_v1081 : Ref sig .tc := ⟨.hbm, 1331, rfl⟩
abbrev main_v1082 : Ref sig .tc := ⟨.hbm, 1332, rfl⟩
abbrev main_v1083 : Ref sig .tc := ⟨.hbm, 1333, rfl⟩
abbrev main_cst_229 : Ref sig .tc := ⟨.hbm, 1334, rfl⟩
abbrev main_v1084 : Ref sig .tc := ⟨.hbm, 1335, rfl⟩
abbrev main_v1085 : Ref sig .tc := ⟨.hbm, 1336, rfl⟩
abbrev main_v1086 : Ref sig .tc := ⟨.hbm, 1337, rfl⟩
abbrev main_v1087 : Ref sig .tc := ⟨.hbm, 1338, rfl⟩
abbrev main_v1088 : Ref sig .tc := ⟨.hbm, 1339, rfl⟩
abbrev main_c_230 : Ref sig .tc := ⟨.hbm, 1340, rfl⟩
abbrev main_v1089 : Ref sig .tc := ⟨.hbm, 1341, rfl⟩
abbrev main_v1090 : Ref sig .tc := ⟨.hbm, 1342, rfl⟩
abbrev main_c_231 : Ref sig .tc := ⟨.hbm, 1343, rfl⟩
abbrev main_v1091 : Ref sig .tc := ⟨.hbm, 1344, rfl⟩
abbrev main_v1092 : Ref sig .tc := ⟨.hbm, 1345, rfl⟩
abbrev main_v1093 : Ref sig .tc := ⟨.hbm, 1346, rfl⟩
abbrev main_v1094 : Ref sig .tc := ⟨.hbm, 1347, rfl⟩
abbrev main_v1095 : Ref sig .tc := ⟨.hbm, 1348, rfl⟩
abbrev main_v1096 : Ref sig .tc := ⟨.hbm, 1349, rfl⟩
abbrev main_v1097 : Ref sig .tc := ⟨.hbm, 1350, rfl⟩
abbrev main_cst_232 : Ref sig .tc := ⟨.hbm, 1351, rfl⟩
abbrev main_v1098 : Ref sig .tc := ⟨.hbm, 1352, rfl⟩
abbrev main_v1099 : Ref sig .tc := ⟨.hbm, 1353, rfl⟩
abbrev main_v1100 : Ref sig .tc := ⟨.hbm, 1354, rfl⟩
abbrev main_v1101 : Ref sig .tc := ⟨.hbm, 1355, rfl⟩
abbrev main_v1102 : Ref sig .tc := ⟨.hbm, 1356, rfl⟩
abbrev main_c_233 : Ref sig .tc := ⟨.hbm, 1357, rfl⟩
abbrev main_v1103 : Ref sig .tc := ⟨.hbm, 1358, rfl⟩
abbrev main_v1104 : Ref sig .tc := ⟨.hbm, 1359, rfl⟩
abbrev main_c_234 : Ref sig .tc := ⟨.hbm, 1360, rfl⟩
abbrev main_v1105 : Ref sig .tc := ⟨.hbm, 1361, rfl⟩
abbrev main_v1106 : Ref sig .tc := ⟨.hbm, 1362, rfl⟩
abbrev main_v1107 : Ref sig .tc := ⟨.hbm, 1363, rfl⟩
abbrev main_v1108 : Ref sig .tc := ⟨.hbm, 1364, rfl⟩
abbrev main_v1109 : Ref sig .tc := ⟨.hbm, 1365, rfl⟩
abbrev main_v1110 : Ref sig .tc := ⟨.hbm, 1366, rfl⟩
abbrev main_v1111 : Ref sig .tc := ⟨.hbm, 1367, rfl⟩
abbrev main_cst_235 : Ref sig .tc := ⟨.hbm, 1368, rfl⟩
abbrev main_v1112 : Ref sig .tc := ⟨.hbm, 1369, rfl⟩
abbrev main_v1113 : Ref sig .tc := ⟨.hbm, 1370, rfl⟩
abbrev main_v1114 : Ref sig .tc := ⟨.hbm, 1371, rfl⟩
abbrev main_v1115 : Ref sig .tc := ⟨.hbm, 1372, rfl⟩
abbrev main_v1116 : Ref sig .tc := ⟨.hbm, 1373, rfl⟩
abbrev main_c_236 : Ref sig .tc := ⟨.hbm, 1374, rfl⟩
abbrev main_v1117 : Ref sig .tc := ⟨.hbm, 1375, rfl⟩
abbrev main_v1118 : Ref sig .tc := ⟨.hbm, 1376, rfl⟩
abbrev main_c_237 : Ref sig .tc := ⟨.hbm, 1377, rfl⟩
abbrev main_v1119 : Ref sig .tc := ⟨.hbm, 1378, rfl⟩
abbrev main_v1120 : Ref sig .tc := ⟨.hbm, 1379, rfl⟩
abbrev main_v1121 : Ref sig .tc := ⟨.hbm, 1380, rfl⟩
abbrev main_v1122 : Ref sig .tc := ⟨.hbm, 1381, rfl⟩
abbrev main_v1123 : Ref sig .tc := ⟨.hbm, 1382, rfl⟩
abbrev main_v1124 : Ref sig .tc := ⟨.hbm, 1383, rfl⟩
abbrev main_v1125 : Ref sig .tc := ⟨.hbm, 1384, rfl⟩
abbrev main_cst_238 : Ref sig .tc := ⟨.hbm, 1385, rfl⟩
abbrev main_v1126 : Ref sig .tc := ⟨.hbm, 1386, rfl⟩
abbrev main_v1127 : Ref sig .tc := ⟨.hbm, 1387, rfl⟩
abbrev main_v1128 : Ref sig .tc := ⟨.hbm, 1388, rfl⟩
abbrev main_v1129 : Ref sig .tc := ⟨.hbm, 1389, rfl⟩
abbrev main_v1130 : Ref sig .tc := ⟨.hbm, 1390, rfl⟩
abbrev main_c_239 : Ref sig .tc := ⟨.hbm, 1391, rfl⟩
abbrev main_v1131 : Ref sig .tc := ⟨.hbm, 1392, rfl⟩
abbrev main_v1132 : Ref sig .tc := ⟨.hbm, 1393, rfl⟩
abbrev main_c_240 : Ref sig .tc := ⟨.hbm, 1394, rfl⟩
abbrev main_v1133 : Ref sig .tc := ⟨.hbm, 1395, rfl⟩
abbrev main_v1134 : Ref sig .tc := ⟨.hbm, 1396, rfl⟩
abbrev main_v1135 : Ref sig .tc := ⟨.hbm, 1397, rfl⟩
abbrev main_v1136 : Ref sig .tc := ⟨.hbm, 1398, rfl⟩
abbrev main_v1137 : Ref sig .tc := ⟨.hbm, 1399, rfl⟩
abbrev main_v1138 : Ref sig .tc := ⟨.hbm, 1400, rfl⟩
abbrev main_v1139 : Ref sig .tc := ⟨.hbm, 1401, rfl⟩
abbrev main_cst_241 : Ref sig .tc := ⟨.hbm, 1402, rfl⟩
abbrev main_v1140 : Ref sig .tc := ⟨.hbm, 1403, rfl⟩
abbrev main_v1141 : Ref sig .tc := ⟨.hbm, 1404, rfl⟩
abbrev main_v1142 : Ref sig .tc := ⟨.hbm, 1405, rfl⟩
abbrev main_v1143 : Ref sig .tc := ⟨.hbm, 1406, rfl⟩
abbrev main_v1144 : Ref sig .tc := ⟨.hbm, 1407, rfl⟩
abbrev main_c_242 : Ref sig .tc := ⟨.hbm, 1408, rfl⟩
abbrev main_v1145 : Ref sig .tc := ⟨.hbm, 1409, rfl⟩
abbrev main_v1146 : Ref sig .tc := ⟨.hbm, 1410, rfl⟩
abbrev main_c_243 : Ref sig .tc := ⟨.hbm, 1411, rfl⟩
abbrev main_v1147 : Ref sig .tc := ⟨.hbm, 1412, rfl⟩
abbrev main_v1148 : Ref sig .tc := ⟨.hbm, 1413, rfl⟩
abbrev main_v1149 : Ref sig .tc := ⟨.hbm, 1414, rfl⟩
abbrev main_v1150 : Ref sig .tc := ⟨.hbm, 1415, rfl⟩
abbrev main_v1151 : Ref sig .tc := ⟨.hbm, 1416, rfl⟩
abbrev main_v1152 : Ref sig .tc := ⟨.hbm, 1417, rfl⟩
abbrev main_v1153 : Ref sig .tc := ⟨.hbm, 1418, rfl⟩
abbrev main_cst_244 : Ref sig .tc := ⟨.hbm, 1419, rfl⟩
abbrev main_v1154 : Ref sig .tc := ⟨.hbm, 1420, rfl⟩
abbrev main_v1155 : Ref sig .tc := ⟨.hbm, 1421, rfl⟩
abbrev main_v1156 : Ref sig .tc := ⟨.hbm, 1422, rfl⟩
abbrev main_v1157 : Ref sig .tc := ⟨.hbm, 1423, rfl⟩
abbrev main_v1158 : Ref sig .tc := ⟨.hbm, 1424, rfl⟩
abbrev main_v1159 : Ref sig .tc := ⟨.hbm, 1425, rfl⟩
abbrev main_cst_245 : Ref sig .tc := ⟨.hbm, 1426, rfl⟩
abbrev main_v1160 : Ref sig .tc := ⟨.hbm, 1427, rfl⟩
abbrev main_v1161 : Ref sig .tc := ⟨.hbm, 1428, rfl⟩
abbrev main_v1162 : Ref sig .tc := ⟨.hbm, 1429, rfl⟩
abbrev main_v1163 : Ref sig .tc := ⟨.hbm, 1430, rfl⟩
abbrev main_c_246 : Ref sig .tc := ⟨.hbm, 1431, rfl⟩
abbrev main_v1164 : Ref sig .tc := ⟨.hbm, 1432, rfl⟩
abbrev main_v1165 : Ref sig .tc := ⟨.hbm, 1433, rfl⟩
abbrev main_c_247 : Ref sig .tc := ⟨.hbm, 1434, rfl⟩
abbrev main_v1166 : Ref sig .tc := ⟨.hbm, 1435, rfl⟩
abbrev main_v1167 : Ref sig .tc := ⟨.hbm, 1436, rfl⟩
abbrev main_v1168 : Ref sig .tc := ⟨.hbm, 1437, rfl⟩
abbrev main_v1169 : Ref sig .tc := ⟨.hbm, 1438, rfl⟩
abbrev main_v1170 : Ref sig .tc := ⟨.hbm, 1439, rfl⟩
abbrev main_v1171 : Ref sig .tc := ⟨.hbm, 1440, rfl⟩
abbrev main_v1172 : Ref sig .tc := ⟨.hbm, 1441, rfl⟩
abbrev main_cst_248 : Ref sig .tc := ⟨.hbm, 1442, rfl⟩
abbrev main_v1173 : Ref sig .tc := ⟨.hbm, 1443, rfl⟩
abbrev main_v1174 : Ref sig .tc := ⟨.hbm, 1444, rfl⟩
abbrev main_v1175 : Ref sig .tc := ⟨.hbm, 1445, rfl⟩
abbrev main_v1176 : Ref sig .tc := ⟨.hbm, 1446, rfl⟩
abbrev main_v1177 : Ref sig .tc := ⟨.hbm, 1447, rfl⟩
abbrev main_v1178 : Ref sig .tc := ⟨.hbm, 1448, rfl⟩
abbrev main_cst_249 : Ref sig .tc := ⟨.hbm, 1449, rfl⟩
abbrev main_v1179 : Ref sig .tc := ⟨.hbm, 1450, rfl⟩
abbrev main_v1180 : Ref sig .tc := ⟨.hbm, 1451, rfl⟩
abbrev main_v1181 : Ref sig .tc := ⟨.hbm, 1452, rfl⟩
abbrev main_v1182 : Ref sig .tc := ⟨.hbm, 1453, rfl⟩
abbrev main_v1183 : Ref sig .tc := ⟨.hbm, 1454, rfl⟩
abbrev main_c_250 : Ref sig .tc := ⟨.hbm, 1455, rfl⟩
abbrev main_v1184 : Ref sig .tc := ⟨.hbm, 1456, rfl⟩
abbrev main_v1185 : Ref sig .tc := ⟨.hbm, 1457, rfl⟩
abbrev main_c_251 : Ref sig .tc := ⟨.hbm, 1458, rfl⟩
abbrev main_v1186 : Ref sig .tc := ⟨.hbm, 1459, rfl⟩
abbrev main_v1187 : Ref sig .tc := ⟨.hbm, 1460, rfl⟩
abbrev main_v1188 : Ref sig .tc := ⟨.hbm, 1461, rfl⟩
abbrev main_v1189 : Ref sig .tc := ⟨.hbm, 1462, rfl⟩
abbrev main_v1190 : Ref sig .tc := ⟨.hbm, 1463, rfl⟩
abbrev main_v1191 : Ref sig .tc := ⟨.hbm, 1464, rfl⟩
abbrev main_v1192 : Ref sig .tc := ⟨.hbm, 1465, rfl⟩
abbrev main_cst_252 : Ref sig .tc := ⟨.hbm, 1466, rfl⟩
abbrev main_v1193 : Ref sig .tc := ⟨.hbm, 1467, rfl⟩
abbrev main_v1194 : Ref sig .tc := ⟨.hbm, 1468, rfl⟩
abbrev main_v1195 : Ref sig .tc := ⟨.hbm, 1469, rfl⟩
abbrev main_v1196 : Ref sig .tc := ⟨.hbm, 1470, rfl⟩
abbrev main_v1197 : Ref sig .tc := ⟨.hbm, 1471, rfl⟩
abbrev main_c_253 : Ref sig .tc := ⟨.hbm, 1472, rfl⟩
abbrev main_v1198 : Ref sig .tc := ⟨.hbm, 1473, rfl⟩
abbrev main_v1199 : Ref sig .tc := ⟨.hbm, 1474, rfl⟩
abbrev main_c_254 : Ref sig .tc := ⟨.hbm, 1475, rfl⟩
abbrev main_v1200 : Ref sig .tc := ⟨.hbm, 1476, rfl⟩
abbrev main_v1201 : Ref sig .tc := ⟨.hbm, 1477, rfl⟩
abbrev main_v1202 : Ref sig .tc := ⟨.hbm, 1478, rfl⟩
abbrev main_v1203 : Ref sig .tc := ⟨.hbm, 1479, rfl⟩
abbrev main_v1204 : Ref sig .tc := ⟨.hbm, 1480, rfl⟩
abbrev main_v1205 : Ref sig .tc := ⟨.hbm, 1481, rfl⟩
abbrev main_v1206 : Ref sig .tc := ⟨.hbm, 1482, rfl⟩
abbrev main_cst_255 : Ref sig .tc := ⟨.hbm, 1483, rfl⟩
abbrev main_v1207 : Ref sig .tc := ⟨.hbm, 1484, rfl⟩
abbrev main_v1208 : Ref sig .tc := ⟨.hbm, 1485, rfl⟩
abbrev main_v1209 : Ref sig .tc := ⟨.hbm, 1486, rfl⟩
abbrev main_v1210 : Ref sig .tc := ⟨.hbm, 1487, rfl⟩
abbrev main_v1211 : Ref sig .tc := ⟨.hbm, 1488, rfl⟩
abbrev main_v1212 : Ref sig .tc := ⟨.hbm, 1489, rfl⟩
abbrev main_cst_256 : Ref sig .tc := ⟨.hbm, 1490, rfl⟩
abbrev main_v1213 : Ref sig .tc := ⟨.hbm, 1491, rfl⟩
abbrev main_v1214 : Ref sig .tc := ⟨.hbm, 1492, rfl⟩
abbrev main_v1215 : Ref sig .tc := ⟨.hbm, 1493, rfl⟩
abbrev main_v1216 : Ref sig .tc := ⟨.hbm, 1494, rfl⟩
abbrev main_v1217 : Ref sig .tc := ⟨.hbm, 1495, rfl⟩
abbrev main_c_257 : Ref sig .tc := ⟨.hbm, 1496, rfl⟩
abbrev main_v1218 : Ref sig .tc := ⟨.hbm, 1497, rfl⟩
abbrev main_v1219 : Ref sig .tc := ⟨.hbm, 1498, rfl⟩
abbrev main_c_258 : Ref sig .tc := ⟨.hbm, 1499, rfl⟩
abbrev main_v1220 : Ref sig .tc := ⟨.hbm, 1500, rfl⟩
abbrev main_v1221 : Ref sig .tc := ⟨.hbm, 1501, rfl⟩
abbrev main_v1222 : Ref sig .tc := ⟨.hbm, 1502, rfl⟩
abbrev main_v1223 : Ref sig .tc := ⟨.hbm, 1503, rfl⟩
abbrev main_v1224 : Ref sig .tc := ⟨.hbm, 1504, rfl⟩
abbrev main_v1225 : Ref sig .tc := ⟨.hbm, 1505, rfl⟩
abbrev main_v1226 : Ref sig .tc := ⟨.hbm, 1506, rfl⟩
abbrev main_cst_259 : Ref sig .tc := ⟨.hbm, 1507, rfl⟩
abbrev main_v1227 : Ref sig .tc := ⟨.hbm, 1508, rfl⟩
abbrev main_v1228 : Ref sig .tc := ⟨.hbm, 1509, rfl⟩
abbrev main_v1229 : Ref sig .tc := ⟨.hbm, 1510, rfl⟩
abbrev main_v1230 : Ref sig .tc := ⟨.hbm, 1511, rfl⟩
abbrev main_v1231 : Ref sig .tc := ⟨.hbm, 1512, rfl⟩
abbrev main_c_260 : Ref sig .tc := ⟨.hbm, 1513, rfl⟩
abbrev main_v1232 : Ref sig .tc := ⟨.hbm, 1514, rfl⟩
abbrev main_v1233 : Ref sig .tc := ⟨.hbm, 1515, rfl⟩
abbrev main_c_261 : Ref sig .tc := ⟨.hbm, 1516, rfl⟩
abbrev main_v1234 : Ref sig .tc := ⟨.hbm, 1517, rfl⟩
abbrev main_v1235 : Ref sig .tc := ⟨.hbm, 1518, rfl⟩
abbrev main_v1236 : Ref sig .tc := ⟨.hbm, 1519, rfl⟩
abbrev main_v1237 : Ref sig .tc := ⟨.hbm, 1520, rfl⟩
abbrev main_v1238 : Ref sig .tc := ⟨.hbm, 1521, rfl⟩
abbrev main_v1239 : Ref sig .tc := ⟨.hbm, 1522, rfl⟩
abbrev main_v1240 : Ref sig .tc := ⟨.hbm, 1523, rfl⟩
abbrev main_cst_262 : Ref sig .tc := ⟨.hbm, 1524, rfl⟩
abbrev main_v1241 : Ref sig .tc := ⟨.hbm, 1525, rfl⟩
abbrev main_v1242 : Ref sig .tc := ⟨.hbm, 1526, rfl⟩
abbrev main_v1243 : Ref sig .tc := ⟨.hbm, 1527, rfl⟩
abbrev main_v1244 : Ref sig .tc := ⟨.hbm, 1528, rfl⟩
abbrev main_v1245 : Ref sig .tc := ⟨.hbm, 1529, rfl⟩
abbrev main_c_263 : Ref sig .tc := ⟨.hbm, 1530, rfl⟩
abbrev main_v1246 : Ref sig .tc := ⟨.hbm, 1531, rfl⟩
abbrev main_v1247 : Ref sig .tc := ⟨.hbm, 1532, rfl⟩
abbrev main_c_264 : Ref sig .tc := ⟨.hbm, 1533, rfl⟩
abbrev main_v1248 : Ref sig .tc := ⟨.hbm, 1534, rfl⟩
abbrev main_v1249 : Ref sig .tc := ⟨.hbm, 1535, rfl⟩
abbrev main_v1250 : Ref sig .tc := ⟨.hbm, 1536, rfl⟩
abbrev main_v1251 : Ref sig .tc := ⟨.hbm, 1537, rfl⟩
abbrev main_v1252 : Ref sig .tc := ⟨.hbm, 1538, rfl⟩
abbrev main_v1253 : Ref sig .tc := ⟨.hbm, 1539, rfl⟩
abbrev main_v1254 : Ref sig .tc := ⟨.hbm, 1540, rfl⟩
abbrev main_cst_265 : Ref sig .tc := ⟨.hbm, 1541, rfl⟩
abbrev main_v1255 : Ref sig .tc := ⟨.hbm, 1542, rfl⟩
abbrev main_v1256 : Ref sig .tc := ⟨.hbm, 1543, rfl⟩
abbrev main_v1257 : Ref sig .tc := ⟨.hbm, 1544, rfl⟩
abbrev main_v1258 : Ref sig .tc := ⟨.hbm, 1545, rfl⟩
abbrev main_v1259 : Ref sig .tc := ⟨.hbm, 1546, rfl⟩
abbrev main_v1260 : Ref sig .tc := ⟨.hbm, 1547, rfl⟩
abbrev main_cst_266 : Ref sig .tc := ⟨.hbm, 1548, rfl⟩
abbrev main_v1261 : Ref sig .tc := ⟨.hbm, 1549, rfl⟩
abbrev main_v1262 : Ref sig .tc := ⟨.hbm, 1550, rfl⟩
abbrev main_v1263 : Ref sig .tc := ⟨.hbm, 1551, rfl⟩
abbrev main_v1264 : Ref sig .tc := ⟨.hbm, 1552, rfl⟩
abbrev main_v1265 : Ref sig .tc := ⟨.hbm, 1553, rfl⟩
abbrev main_c_267 : Ref sig .tc := ⟨.hbm, 1554, rfl⟩
abbrev main_v1266 : Ref sig .tc := ⟨.hbm, 1555, rfl⟩
abbrev main_v1267 : Ref sig .tc := ⟨.hbm, 1556, rfl⟩
abbrev main_c_268 : Ref sig .tc := ⟨.hbm, 1557, rfl⟩
abbrev main_v1268 : Ref sig .tc := ⟨.hbm, 1558, rfl⟩
abbrev main_v1269 : Ref sig .tc := ⟨.hbm, 1559, rfl⟩
abbrev main_v1270 : Ref sig .tc := ⟨.hbm, 1560, rfl⟩
abbrev main_v1271 : Ref sig .tc := ⟨.hbm, 1561, rfl⟩
abbrev main_v1272 : Ref sig .tc := ⟨.hbm, 1562, rfl⟩
abbrev main_v1273 : Ref sig .tc := ⟨.hbm, 1563, rfl⟩
abbrev main_v1274 : Ref sig .tc := ⟨.hbm, 1564, rfl⟩
abbrev main_cst_269 : Ref sig .tc := ⟨.hbm, 1565, rfl⟩
abbrev main_v1275 : Ref sig .tc := ⟨.hbm, 1566, rfl⟩
abbrev main_v1276 : Ref sig .tc := ⟨.hbm, 1567, rfl⟩
abbrev main_v1277 : Ref sig .tc := ⟨.hbm, 1568, rfl⟩
abbrev main_v1278 : Ref sig .tc := ⟨.hbm, 1569, rfl⟩
abbrev main_v1279 : Ref sig .tc := ⟨.hbm, 1570, rfl⟩
abbrev main_c_270 : Ref sig .tc := ⟨.hbm, 1571, rfl⟩
abbrev main_v1280 : Ref sig .tc := ⟨.hbm, 1572, rfl⟩
abbrev main_v1281 : Ref sig .tc := ⟨.hbm, 1573, rfl⟩
abbrev main_c_271 : Ref sig .tc := ⟨.hbm, 1574, rfl⟩
abbrev main_v1282 : Ref sig .tc := ⟨.hbm, 1575, rfl⟩
abbrev main_v1283 : Ref sig .tc := ⟨.hbm, 1576, rfl⟩
abbrev main_v1284 : Ref sig .tc := ⟨.hbm, 1577, rfl⟩
abbrev main_v1285 : Ref sig .tc := ⟨.hbm, 1578, rfl⟩
abbrev main_v1286 : Ref sig .tc := ⟨.hbm, 1579, rfl⟩
abbrev main_v1287 : Ref sig .tc := ⟨.hbm, 1580, rfl⟩
abbrev main_v1288 : Ref sig .tc := ⟨.hbm, 1581, rfl⟩
abbrev main_cst_272 : Ref sig .tc := ⟨.hbm, 1582, rfl⟩
abbrev main_v1289 : Ref sig .tc := ⟨.hbm, 1583, rfl⟩
abbrev main_v1290 : Ref sig .tc := ⟨.hbm, 1584, rfl⟩
abbrev main_v1291 : Ref sig .tc := ⟨.hbm, 1585, rfl⟩
abbrev main_v1292 : Ref sig .tc := ⟨.hbm, 1586, rfl⟩
abbrev main_v1293 : Ref sig .tc := ⟨.hbm, 1587, rfl⟩
abbrev main_c_273 : Ref sig .tc := ⟨.hbm, 1588, rfl⟩
abbrev main_v1294 : Ref sig .tc := ⟨.hbm, 1589, rfl⟩
abbrev main_v1295 : Ref sig .tc := ⟨.hbm, 1590, rfl⟩
abbrev main_c_274 : Ref sig .tc := ⟨.hbm, 1591, rfl⟩
abbrev main_v1296 : Ref sig .tc := ⟨.hbm, 1592, rfl⟩
abbrev main_v1297 : Ref sig .tc := ⟨.hbm, 1593, rfl⟩
abbrev main_v1298 : Ref sig .tc := ⟨.hbm, 1594, rfl⟩
abbrev main_v1299 : Ref sig .tc := ⟨.hbm, 1595, rfl⟩
abbrev main_v1300 : Ref sig .tc := ⟨.hbm, 1596, rfl⟩
abbrev main_v1301 : Ref sig .tc := ⟨.hbm, 1597, rfl⟩
abbrev main_v1302 : Ref sig .tc := ⟨.hbm, 1598, rfl⟩
abbrev main_cst_275 : Ref sig .tc := ⟨.hbm, 1599, rfl⟩
abbrev main_v1303 : Ref sig .tc := ⟨.hbm, 1600, rfl⟩
abbrev main_v1304 : Ref sig .tc := ⟨.hbm, 1601, rfl⟩
abbrev main_v1305 : Ref sig .tc := ⟨.hbm, 1602, rfl⟩
abbrev main_v1306 : Ref sig .tc := ⟨.hbm, 1603, rfl⟩
abbrev main_v1307 : Ref sig .tc := ⟨.hbm, 1604, rfl⟩
abbrev main_c_276 : Ref sig .tc := ⟨.hbm, 1605, rfl⟩
abbrev main_v1308 : Ref sig .tc := ⟨.hbm, 1606, rfl⟩
abbrev main_v1309 : Ref sig .tc := ⟨.hbm, 1607, rfl⟩
abbrev main_c_277 : Ref sig .tc := ⟨.hbm, 1608, rfl⟩
abbrev main_v1310 : Ref sig .tc := ⟨.hbm, 1609, rfl⟩
abbrev main_v1311 : Ref sig .tc := ⟨.hbm, 1610, rfl⟩
abbrev main_v1312 : Ref sig .tc := ⟨.hbm, 1611, rfl⟩
abbrev main_v1313 : Ref sig .tc := ⟨.hbm, 1612, rfl⟩
abbrev main_v1314 : Ref sig .tc := ⟨.hbm, 1613, rfl⟩
abbrev main_v1315 : Ref sig .tc := ⟨.hbm, 1614, rfl⟩
abbrev main_v1316 : Ref sig .tc := ⟨.hbm, 1615, rfl⟩
abbrev main_cst_278 : Ref sig .tc := ⟨.hbm, 1616, rfl⟩
abbrev main_v1317 : Ref sig .tc := ⟨.hbm, 1617, rfl⟩
abbrev main_v1318 : Ref sig .tc := ⟨.hbm, 1618, rfl⟩
abbrev main_v1319 : Ref sig .tc := ⟨.hbm, 1619, rfl⟩
abbrev main_v1320 : Ref sig .tc := ⟨.hbm, 1620, rfl⟩
abbrev main_v1321 : Ref sig .tc := ⟨.hbm, 1621, rfl⟩
abbrev main_v1322 : Ref sig .tc := ⟨.hbm, 1622, rfl⟩
abbrev main_cst_279 : Ref sig .tc := ⟨.hbm, 1623, rfl⟩
abbrev main_v1323 : Ref sig .tc := ⟨.hbm, 1624, rfl⟩
abbrev main_v1324 : Ref sig .tc := ⟨.hbm, 1625, rfl⟩
abbrev main_v1325 : Ref sig .tc := ⟨.hbm, 1626, rfl⟩
abbrev main_v1326 : Ref sig .tc := ⟨.hbm, 1627, rfl⟩
abbrev main_v1327 : Ref sig .tc := ⟨.hbm, 1628, rfl⟩
abbrev main_c_280 : Ref sig .tc := ⟨.hbm, 1629, rfl⟩
abbrev main_v1328 : Ref sig .tc := ⟨.hbm, 1630, rfl⟩
abbrev main_v1329 : Ref sig .tc := ⟨.hbm, 1631, rfl⟩
abbrev main_c_281 : Ref sig .tc := ⟨.hbm, 1632, rfl⟩
abbrev main_v1330 : Ref sig .tc := ⟨.hbm, 1633, rfl⟩
abbrev main_v1331 : Ref sig .tc := ⟨.hbm, 1634, rfl⟩
abbrev main_v1332 : Ref sig .tc := ⟨.hbm, 1635, rfl⟩
abbrev main_v1333 : Ref sig .tc := ⟨.hbm, 1636, rfl⟩
abbrev main_v1334 : Ref sig .tc := ⟨.hbm, 1637, rfl⟩
abbrev main_v1335 : Ref sig .tc := ⟨.hbm, 1638, rfl⟩
abbrev main_v1336 : Ref sig .tc := ⟨.hbm, 1639, rfl⟩
abbrev main_cst_282 : Ref sig .tc := ⟨.hbm, 1640, rfl⟩
abbrev main_v1337 : Ref sig .tc := ⟨.hbm, 1641, rfl⟩
abbrev main_v1338 : Ref sig .tc := ⟨.hbm, 1642, rfl⟩
abbrev main_v1339 : Ref sig .tc := ⟨.hbm, 1643, rfl⟩
abbrev main_v1340 : Ref sig .tc := ⟨.hbm, 1644, rfl⟩
abbrev main_v1341 : Ref sig .tc := ⟨.hbm, 1645, rfl⟩
abbrev main_c_283 : Ref sig .tc := ⟨.hbm, 1646, rfl⟩
abbrev main_v1342 : Ref sig .tc := ⟨.hbm, 1647, rfl⟩
abbrev main_v1343 : Ref sig .tc := ⟨.hbm, 1648, rfl⟩
abbrev main_c_284 : Ref sig .tc := ⟨.hbm, 1649, rfl⟩
abbrev main_v1344 : Ref sig .tc := ⟨.hbm, 1650, rfl⟩
abbrev main_v1345 : Ref sig .tc := ⟨.hbm, 1651, rfl⟩
abbrev main_v1346 : Ref sig .tc := ⟨.hbm, 1652, rfl⟩
abbrev main_v1347 : Ref sig .tc := ⟨.hbm, 1653, rfl⟩
abbrev main_v1348 : Ref sig .tc := ⟨.hbm, 1654, rfl⟩
abbrev main_v1349 : Ref sig .tc := ⟨.hbm, 1655, rfl⟩
abbrev main_v1350 : Ref sig .tc := ⟨.hbm, 1656, rfl⟩
abbrev main_cst_285 : Ref sig .tc := ⟨.hbm, 1657, rfl⟩
abbrev main_v1351 : Ref sig .tc := ⟨.hbm, 1658, rfl⟩
abbrev main_v1352 : Ref sig .tc := ⟨.hbm, 1659, rfl⟩
abbrev main_v1353 : Ref sig .tc := ⟨.hbm, 1660, rfl⟩
abbrev main_v1354 : Ref sig .tc := ⟨.hbm, 1661, rfl⟩
abbrev main_v1355 : Ref sig .tc := ⟨.hbm, 1662, rfl⟩
abbrev main_c_286 : Ref sig .tc := ⟨.hbm, 1663, rfl⟩
abbrev main_v1356 : Ref sig .tc := ⟨.hbm, 1664, rfl⟩
abbrev main_v1357 : Ref sig .tc := ⟨.hbm, 1665, rfl⟩
abbrev main_c_287 : Ref sig .tc := ⟨.hbm, 1666, rfl⟩
abbrev main_v1358 : Ref sig .tc := ⟨.hbm, 1667, rfl⟩
abbrev main_v1359 : Ref sig .tc := ⟨.hbm, 1668, rfl⟩
abbrev main_v1360 : Ref sig .tc := ⟨.hbm, 1669, rfl⟩
abbrev main_v1361 : Ref sig .tc := ⟨.hbm, 1670, rfl⟩
abbrev main_v1362 : Ref sig .tc := ⟨.hbm, 1671, rfl⟩
abbrev main_v1363 : Ref sig .tc := ⟨.hbm, 1672, rfl⟩
abbrev main_v1364 : Ref sig .tc := ⟨.hbm, 1673, rfl⟩
abbrev main_cst_288 : Ref sig .tc := ⟨.hbm, 1674, rfl⟩
abbrev main_v1365 : Ref sig .tc := ⟨.hbm, 1675, rfl⟩
abbrev main_v1366 : Ref sig .tc := ⟨.hbm, 1676, rfl⟩
abbrev main_v1367 : Ref sig .tc := ⟨.hbm, 1677, rfl⟩
abbrev main_v1368 : Ref sig .tc := ⟨.hbm, 1678, rfl⟩
abbrev main_v1369 : Ref sig .tc := ⟨.hbm, 1679, rfl⟩
abbrev main_c_289 : Ref sig .tc := ⟨.hbm, 1680, rfl⟩
abbrev main_v1370 : Ref sig .tc := ⟨.hbm, 1681, rfl⟩
abbrev main_v1371 : Ref sig .tc := ⟨.hbm, 1682, rfl⟩
abbrev main_c_290 : Ref sig .tc := ⟨.hbm, 1683, rfl⟩
abbrev main_v1372 : Ref sig .tc := ⟨.hbm, 1684, rfl⟩
abbrev main_v1373 : Ref sig .tc := ⟨.hbm, 1685, rfl⟩
abbrev main_v1374 : Ref sig .tc := ⟨.hbm, 1686, rfl⟩
abbrev main_v1375 : Ref sig .tc := ⟨.hbm, 1687, rfl⟩
abbrev main_v1376 : Ref sig .tc := ⟨.hbm, 1688, rfl⟩
abbrev main_v1377 : Ref sig .tc := ⟨.hbm, 1689, rfl⟩
abbrev main_v1378 : Ref sig .tc := ⟨.hbm, 1690, rfl⟩
abbrev main_cst_291 : Ref sig .tc := ⟨.hbm, 1691, rfl⟩
abbrev main_v1379 : Ref sig .tc := ⟨.hbm, 1692, rfl⟩
abbrev main_v1380 : Ref sig .tc := ⟨.hbm, 1693, rfl⟩
abbrev main_v1381 : Ref sig .tc := ⟨.hbm, 1694, rfl⟩
abbrev main_v1382 : Ref sig .tc := ⟨.hbm, 1695, rfl⟩
abbrev main_v1383 : Ref sig .tc := ⟨.hbm, 1696, rfl⟩
abbrev main_c_292 : Ref sig .tc := ⟨.hbm, 1697, rfl⟩
abbrev main_v1384 : Ref sig .tc := ⟨.hbm, 1698, rfl⟩
abbrev main_v1385 : Ref sig .tc := ⟨.hbm, 1699, rfl⟩
abbrev main_c_293 : Ref sig .tc := ⟨.hbm, 1700, rfl⟩
abbrev main_v1386 : Ref sig .tc := ⟨.hbm, 1701, rfl⟩
abbrev main_v1387 : Ref sig .tc := ⟨.hbm, 1702, rfl⟩
abbrev main_v1388 : Ref sig .tc := ⟨.hbm, 1703, rfl⟩
abbrev main_v1389 : Ref sig .tc := ⟨.hbm, 1704, rfl⟩
abbrev main_v1390 : Ref sig .tc := ⟨.hbm, 1705, rfl⟩
abbrev main_v1391 : Ref sig .tc := ⟨.hbm, 1706, rfl⟩
abbrev main_v1392 : Ref sig .tc := ⟨.hbm, 1707, rfl⟩
abbrev main_cst_294 : Ref sig .tc := ⟨.hbm, 1708, rfl⟩
abbrev main_v1393 : Ref sig .tc := ⟨.hbm, 1709, rfl⟩
abbrev main_v1394 : Ref sig .tc := ⟨.hbm, 1710, rfl⟩
abbrev main_v1395 : Ref sig .tc := ⟨.hbm, 1711, rfl⟩
abbrev main_v1396 : Ref sig .tc := ⟨.hbm, 1712, rfl⟩
abbrev main_v1397 : Ref sig .tc := ⟨.hbm, 1713, rfl⟩
abbrev main_v1398 : Ref sig .tc := ⟨.hbm, 1714, rfl⟩
abbrev main_cst_295 : Ref sig .tc := ⟨.hbm, 1715, rfl⟩
abbrev main_v1399 : Ref sig .tc := ⟨.hbm, 1716, rfl⟩
abbrev main_v1400 : Ref sig .tc := ⟨.hbm, 1717, rfl⟩
abbrev main_v1401 : Ref sig .tc := ⟨.hbm, 1718, rfl⟩
abbrev main_v1402 : Ref sig .tc := ⟨.hbm, 1719, rfl⟩
abbrev main_v1403 : Ref sig .tc := ⟨.hbm, 1720, rfl⟩
abbrev main_c_296 : Ref sig .tc := ⟨.hbm, 1721, rfl⟩
abbrev main_v1404 : Ref sig .tc := ⟨.hbm, 1722, rfl⟩
abbrev main_v1405 : Ref sig .tc := ⟨.hbm, 1723, rfl⟩
abbrev main_c_297 : Ref sig .tc := ⟨.hbm, 1724, rfl⟩
abbrev main_v1406 : Ref sig .tc := ⟨.hbm, 1725, rfl⟩
abbrev main_v1407 : Ref sig .tc := ⟨.hbm, 1726, rfl⟩
abbrev main_v1408 : Ref sig .tc := ⟨.hbm, 1727, rfl⟩
abbrev main_v1409 : Ref sig .tc := ⟨.hbm, 1728, rfl⟩
abbrev main_v1410 : Ref sig .tc := ⟨.hbm, 1729, rfl⟩
abbrev main_v1411 : Ref sig .tc := ⟨.hbm, 1730, rfl⟩
abbrev main_v1412 : Ref sig .tc := ⟨.hbm, 1731, rfl⟩
abbrev main_cst_298 : Ref sig .tc := ⟨.hbm, 1732, rfl⟩
abbrev main_v1413 : Ref sig .tc := ⟨.hbm, 1733, rfl⟩
abbrev main_v1414 : Ref sig .tc := ⟨.hbm, 1734, rfl⟩
abbrev main_v1415 : Ref sig .tc := ⟨.hbm, 1735, rfl⟩
abbrev main_v1416 : Ref sig .tc := ⟨.hbm, 1736, rfl⟩
abbrev main_v1417 : Ref sig .tc := ⟨.hbm, 1737, rfl⟩
abbrev main_c_299 : Ref sig .tc := ⟨.hbm, 1738, rfl⟩
abbrev main_v1418 : Ref sig .tc := ⟨.hbm, 1739, rfl⟩
abbrev main_v1419 : Ref sig .tc := ⟨.hbm, 1740, rfl⟩
abbrev main_c_300 : Ref sig .tc := ⟨.hbm, 1741, rfl⟩
abbrev main_v1420 : Ref sig .tc := ⟨.hbm, 1742, rfl⟩
abbrev main_v1421 : Ref sig .tc := ⟨.hbm, 1743, rfl⟩
abbrev main_v1422 : Ref sig .tc := ⟨.hbm, 1744, rfl⟩
abbrev main_v1423 : Ref sig .tc := ⟨.hbm, 1745, rfl⟩
abbrev main_v1424 : Ref sig .tc := ⟨.hbm, 1746, rfl⟩
abbrev main_v1425 : Ref sig .tc := ⟨.hbm, 1747, rfl⟩
abbrev main_v1426 : Ref sig .tc := ⟨.hbm, 1748, rfl⟩
abbrev main_cst_301 : Ref sig .tc := ⟨.hbm, 1749, rfl⟩
abbrev main_v1427 : Ref sig .tc := ⟨.hbm, 1750, rfl⟩
abbrev main_v1428 : Ref sig .tc := ⟨.hbm, 1751, rfl⟩
abbrev main_v1429 : Ref sig .tc := ⟨.hbm, 1752, rfl⟩
abbrev main_v1430 : Ref sig .tc := ⟨.hbm, 1753, rfl⟩
abbrev main_v1431 : Ref sig .tc := ⟨.hbm, 1754, rfl⟩
abbrev main_c_302 : Ref sig .tc := ⟨.hbm, 1755, rfl⟩
abbrev main_v1432 : Ref sig .tc := ⟨.hbm, 1756, rfl⟩
abbrev main_v1433 : Ref sig .tc := ⟨.hbm, 1757, rfl⟩
abbrev main_c_303 : Ref sig .tc := ⟨.hbm, 1758, rfl⟩
abbrev main_v1434 : Ref sig .tc := ⟨.hbm, 1759, rfl⟩
abbrev main_v1435 : Ref sig .tc := ⟨.hbm, 1760, rfl⟩
abbrev main_v1436 : Ref sig .tc := ⟨.hbm, 1761, rfl⟩
abbrev main_v1437 : Ref sig .tc := ⟨.hbm, 1762, rfl⟩
abbrev main_v1438 : Ref sig .tc := ⟨.hbm, 1763, rfl⟩
abbrev main_v1439 : Ref sig .tc := ⟨.hbm, 1764, rfl⟩
abbrev main_v1440 : Ref sig .tc := ⟨.hbm, 1765, rfl⟩
abbrev main_cst_304 : Ref sig .tc := ⟨.hbm, 1766, rfl⟩
abbrev main_v1441 : Ref sig .tc := ⟨.hbm, 1767, rfl⟩
abbrev main_v1442 : Ref sig .tc := ⟨.hbm, 1768, rfl⟩
abbrev main_v1443 : Ref sig .tc := ⟨.hbm, 1769, rfl⟩
abbrev main_v1444 : Ref sig .tc := ⟨.hbm, 1770, rfl⟩
abbrev main_v1445 : Ref sig .tc := ⟨.hbm, 1771, rfl⟩
abbrev main_c_305 : Ref sig .tc := ⟨.hbm, 1772, rfl⟩
abbrev main_v1446 : Ref sig .tc := ⟨.hbm, 1773, rfl⟩
abbrev main_v1447 : Ref sig .tc := ⟨.hbm, 1774, rfl⟩
abbrev main_c_306 : Ref sig .tc := ⟨.hbm, 1775, rfl⟩
abbrev main_v1448 : Ref sig .tc := ⟨.hbm, 1776, rfl⟩
abbrev main_v1449 : Ref sig .tc := ⟨.hbm, 1777, rfl⟩
abbrev main_v1450 : Ref sig .tc := ⟨.hbm, 1778, rfl⟩
abbrev main_v1451 : Ref sig .tc := ⟨.hbm, 1779, rfl⟩
abbrev main_v1452 : Ref sig .tc := ⟨.hbm, 1780, rfl⟩
abbrev main_v1453 : Ref sig .tc := ⟨.hbm, 1781, rfl⟩
abbrev main_v1454 : Ref sig .tc := ⟨.hbm, 1782, rfl⟩
abbrev main_cst_307 : Ref sig .tc := ⟨.hbm, 1783, rfl⟩
abbrev main_v1455 : Ref sig .tc := ⟨.hbm, 1784, rfl⟩
abbrev main_v1456 : Ref sig .tc := ⟨.hbm, 1785, rfl⟩
abbrev main_v1457 : Ref sig .tc := ⟨.hbm, 1786, rfl⟩
abbrev main_v1458 : Ref sig .tc := ⟨.hbm, 1787, rfl⟩
abbrev main_v1459 : Ref sig .tc := ⟨.hbm, 1788, rfl⟩
abbrev main_c_308 : Ref sig .tc := ⟨.hbm, 1789, rfl⟩
abbrev main_v1460 : Ref sig .tc := ⟨.hbm, 1790, rfl⟩
abbrev main_v1461 : Ref sig .tc := ⟨.hbm, 1791, rfl⟩
abbrev main_c_309 : Ref sig .tc := ⟨.hbm, 1792, rfl⟩
abbrev main_v1462 : Ref sig .tc := ⟨.hbm, 1793, rfl⟩
abbrev main_v1463 : Ref sig .tc := ⟨.hbm, 1794, rfl⟩
abbrev main_v1464 : Ref sig .tc := ⟨.hbm, 1795, rfl⟩
abbrev main_v1465 : Ref sig .tc := ⟨.hbm, 1796, rfl⟩
abbrev main_v1466 : Ref sig .tc := ⟨.hbm, 1797, rfl⟩
abbrev main_v1467 : Ref sig .tc := ⟨.hbm, 1798, rfl⟩
abbrev main_v1468 : Ref sig .tc := ⟨.hbm, 1799, rfl⟩
abbrev main_cst_310 : Ref sig .tc := ⟨.hbm, 1800, rfl⟩
abbrev main_v1469 : Ref sig .tc := ⟨.hbm, 1801, rfl⟩
abbrev main_v1470 : Ref sig .tc := ⟨.hbm, 1802, rfl⟩
abbrev main_v1471 : Ref sig .tc := ⟨.hbm, 1803, rfl⟩
abbrev main_v1472 : Ref sig .tc := ⟨.hbm, 1804, rfl⟩
abbrev main_v1473 : Ref sig .tc := ⟨.hbm, 1805, rfl⟩
abbrev main_c_311 : Ref sig .tc := ⟨.hbm, 1806, rfl⟩
abbrev main_v1474 : Ref sig .tc := ⟨.hbm, 1807, rfl⟩
abbrev main_v1475 : Ref sig .tc := ⟨.hbm, 1808, rfl⟩
abbrev main_c_312 : Ref sig .tc := ⟨.hbm, 1809, rfl⟩
abbrev main_v1476 : Ref sig .tc := ⟨.hbm, 1810, rfl⟩
abbrev main_v1477 : Ref sig .tc := ⟨.hbm, 1811, rfl⟩
abbrev main_v1478 : Ref sig .tc := ⟨.hbm, 1812, rfl⟩
abbrev main_v1479 : Ref sig .tc := ⟨.hbm, 1813, rfl⟩
abbrev main_v1480 : Ref sig .tc := ⟨.hbm, 1814, rfl⟩
abbrev main_v1481 : Ref sig .tc := ⟨.hbm, 1815, rfl⟩
abbrev main_v1482 : Ref sig .tc := ⟨.hbm, 1816, rfl⟩
abbrev main_cst_313 : Ref sig .tc := ⟨.hbm, 1817, rfl⟩
abbrev main_v1483 : Ref sig .tc := ⟨.hbm, 1818, rfl⟩
abbrev main_v1484 : Ref sig .tc := ⟨.hbm, 1819, rfl⟩
abbrev main_v1485 : Ref sig .tc := ⟨.hbm, 1820, rfl⟩
abbrev main_v1486 : Ref sig .tc := ⟨.hbm, 1821, rfl⟩
abbrev main_v1487 : Ref sig .tc := ⟨.hbm, 1822, rfl⟩
abbrev main_v1488 : Ref sig .tc := ⟨.hbm, 1823, rfl⟩
abbrev main_cst_314 : Ref sig .tc := ⟨.hbm, 1824, rfl⟩
abbrev main_v1489 : Ref sig .tc := ⟨.hbm, 1825, rfl⟩
abbrev main_v1490 : Ref sig .tc := ⟨.hbm, 1826, rfl⟩
abbrev main_v1491 : Ref sig .tc := ⟨.hbm, 1827, rfl⟩
abbrev main_v1492 : Ref sig .tc := ⟨.hbm, 1828, rfl⟩
abbrev main_v1493 : Ref sig .tc := ⟨.hbm, 1829, rfl⟩
abbrev main_c_315 : Ref sig .tc := ⟨.hbm, 1830, rfl⟩
abbrev main_v1494 : Ref sig .tc := ⟨.hbm, 1831, rfl⟩
abbrev main_v1495 : Ref sig .tc := ⟨.hbm, 1832, rfl⟩
abbrev main_c_316 : Ref sig .tc := ⟨.hbm, 1833, rfl⟩
abbrev main_v1496 : Ref sig .tc := ⟨.hbm, 1834, rfl⟩
abbrev main_v1497 : Ref sig .tc := ⟨.hbm, 1835, rfl⟩
abbrev main_v1498 : Ref sig .tc := ⟨.hbm, 1836, rfl⟩
abbrev main_v1499 : Ref sig .tc := ⟨.hbm, 1837, rfl⟩
abbrev main_v1500 : Ref sig .tc := ⟨.hbm, 1838, rfl⟩
abbrev main_v1501 : Ref sig .tc := ⟨.hbm, 1839, rfl⟩
abbrev main_v1502 : Ref sig .tc := ⟨.hbm, 1840, rfl⟩
abbrev main_cst_317 : Ref sig .tc := ⟨.hbm, 1841, rfl⟩
abbrev main_v1503 : Ref sig .tc := ⟨.hbm, 1842, rfl⟩
abbrev main_v1504 : Ref sig .tc := ⟨.hbm, 1843, rfl⟩
abbrev main_v1505 : Ref sig .tc := ⟨.hbm, 1844, rfl⟩
abbrev main_v1506 : Ref sig .tc := ⟨.hbm, 1845, rfl⟩
abbrev main_v1507 : Ref sig .tc := ⟨.hbm, 1846, rfl⟩
abbrev main_c_318 : Ref sig .tc := ⟨.hbm, 1847, rfl⟩
abbrev main_v1508 : Ref sig .tc := ⟨.hbm, 1848, rfl⟩
abbrev main_v1509 : Ref sig .tc := ⟨.hbm, 1849, rfl⟩
abbrev main_c_319 : Ref sig .tc := ⟨.hbm, 1850, rfl⟩
abbrev main_v1510 : Ref sig .tc := ⟨.hbm, 1851, rfl⟩
abbrev main_v1511 : Ref sig .tc := ⟨.hbm, 1852, rfl⟩
abbrev main_v1512 : Ref sig .tc := ⟨.hbm, 1853, rfl⟩
abbrev main_v1513 : Ref sig .tc := ⟨.hbm, 1854, rfl⟩
abbrev main_v1514 : Ref sig .tc := ⟨.hbm, 1855, rfl⟩
abbrev main_v1515 : Ref sig .tc := ⟨.hbm, 1856, rfl⟩
abbrev main_v1516 : Ref sig .tc := ⟨.hbm, 1857, rfl⟩
abbrev main_cst_320 : Ref sig .tc := ⟨.hbm, 1858, rfl⟩
abbrev main_v1517 : Ref sig .tc := ⟨.hbm, 1859, rfl⟩
abbrev main_v1518 : Ref sig .tc := ⟨.hbm, 1860, rfl⟩
abbrev main_v1519 : Ref sig .tc := ⟨.hbm, 1861, rfl⟩
abbrev main_v1520 : Ref sig .tc := ⟨.hbm, 1862, rfl⟩
abbrev main_v1521 : Ref sig .tc := ⟨.hbm, 1863, rfl⟩
abbrev main_c_321 : Ref sig .tc := ⟨.hbm, 1864, rfl⟩
abbrev main_v1522 : Ref sig .tc := ⟨.hbm, 1865, rfl⟩
abbrev main_v1523 : Ref sig .tc := ⟨.hbm, 1866, rfl⟩
abbrev main_c_322 : Ref sig .tc := ⟨.hbm, 1867, rfl⟩
abbrev main_v1524 : Ref sig .tc := ⟨.hbm, 1868, rfl⟩
abbrev main_v1525 : Ref sig .tc := ⟨.hbm, 1869, rfl⟩
abbrev main_v1526 : Ref sig .tc := ⟨.hbm, 1870, rfl⟩
abbrev main_v1527 : Ref sig .tc := ⟨.hbm, 1871, rfl⟩
abbrev main_v1528 : Ref sig .tc := ⟨.hbm, 1872, rfl⟩
abbrev main_v1529 : Ref sig .tc := ⟨.hbm, 1873, rfl⟩
abbrev main_v1530 : Ref sig .tc := ⟨.hbm, 1874, rfl⟩
abbrev main_cst_323 : Ref sig .tc := ⟨.hbm, 1875, rfl⟩
abbrev main_v1531 : Ref sig .tc := ⟨.hbm, 1876, rfl⟩
abbrev main_v1532 : Ref sig .tc := ⟨.hbm, 1877, rfl⟩
abbrev main_v1533 : Ref sig .tc := ⟨.hbm, 1878, rfl⟩
abbrev main_v1534 : Ref sig .tc := ⟨.hbm, 1879, rfl⟩
abbrev main_v1535 : Ref sig .tc := ⟨.hbm, 1880, rfl⟩
abbrev main_c_324 : Ref sig .tc := ⟨.hbm, 1881, rfl⟩
abbrev main_v1536 : Ref sig .tc := ⟨.hbm, 1882, rfl⟩
abbrev main_v1537 : Ref sig .tc := ⟨.hbm, 1883, rfl⟩
abbrev main_c_325 : Ref sig .tc := ⟨.hbm, 1884, rfl⟩
abbrev main_v1538 : Ref sig .tc := ⟨.hbm, 1885, rfl⟩
abbrev main_v1539 : Ref sig .tc := ⟨.hbm, 1886, rfl⟩
abbrev main_v1540 : Ref sig .tc := ⟨.hbm, 1887, rfl⟩
abbrev main_v1541 : Ref sig .tc := ⟨.hbm, 1888, rfl⟩
abbrev main_v1542 : Ref sig .tc := ⟨.hbm, 1889, rfl⟩
abbrev main_v1543 : Ref sig .tc := ⟨.hbm, 1890, rfl⟩
abbrev main_v1544 : Ref sig .tc := ⟨.hbm, 1891, rfl⟩
abbrev main_cst_326 : Ref sig .tc := ⟨.hbm, 1892, rfl⟩
abbrev main_v1545 : Ref sig .tc := ⟨.hbm, 1893, rfl⟩
abbrev main_v1546 : Ref sig .tc := ⟨.hbm, 1894, rfl⟩
abbrev main_v1547 : Ref sig .tc := ⟨.hbm, 1895, rfl⟩
abbrev main_v1548 : Ref sig .tc := ⟨.hbm, 1896, rfl⟩
abbrev main_v1549 : Ref sig .tc := ⟨.hbm, 1897, rfl⟩
abbrev main_c_327 : Ref sig .tc := ⟨.hbm, 1898, rfl⟩
abbrev main_v1550 : Ref sig .tc := ⟨.hbm, 1899, rfl⟩
abbrev main_v1551 : Ref sig .tc := ⟨.hbm, 1900, rfl⟩
abbrev main_c_328 : Ref sig .tc := ⟨.hbm, 1901, rfl⟩
abbrev main_v1552 : Ref sig .tc := ⟨.hbm, 1902, rfl⟩
abbrev main_v1553 : Ref sig .tc := ⟨.hbm, 1903, rfl⟩
abbrev main_v1554 : Ref sig .tc := ⟨.hbm, 1904, rfl⟩
abbrev main_v1555 : Ref sig .tc := ⟨.hbm, 1905, rfl⟩
abbrev main_v1556 : Ref sig .tc := ⟨.hbm, 1906, rfl⟩
abbrev main_v1557 : Ref sig .tc := ⟨.hbm, 1907, rfl⟩
abbrev main_v1558 : Ref sig .tc := ⟨.hbm, 1908, rfl⟩
abbrev main_cst_329 : Ref sig .tc := ⟨.hbm, 1909, rfl⟩
abbrev main_v1559 : Ref sig .tc := ⟨.hbm, 1910, rfl⟩
abbrev main_v1560 : Ref sig .tc := ⟨.hbm, 1911, rfl⟩
abbrev main_v1561 : Ref sig .tc := ⟨.hbm, 1912, rfl⟩
abbrev main_v1562 : Ref sig .tc := ⟨.hbm, 1913, rfl⟩
abbrev main_v1563 : Ref sig .tc := ⟨.hbm, 1914, rfl⟩
abbrev main_c_330 : Ref sig .tc := ⟨.hbm, 1915, rfl⟩
abbrev main_v1564 : Ref sig .tc := ⟨.hbm, 1916, rfl⟩
abbrev main_v1565 : Ref sig .tc := ⟨.hbm, 1917, rfl⟩
abbrev main_c_331 : Ref sig .tc := ⟨.hbm, 1918, rfl⟩
abbrev main_v1566 : Ref sig .tc := ⟨.hbm, 1919, rfl⟩
abbrev main_v1567 : Ref sig .tc := ⟨.hbm, 1920, rfl⟩
abbrev main_v1568 : Ref sig .tc := ⟨.hbm, 1921, rfl⟩
abbrev main_v1569 : Ref sig .tc := ⟨.hbm, 1922, rfl⟩
abbrev main_v1570 : Ref sig .tc := ⟨.hbm, 1923, rfl⟩
abbrev main_v1571 : Ref sig .tc := ⟨.hbm, 1924, rfl⟩
abbrev main_v1572 : Ref sig .tc := ⟨.hbm, 1925, rfl⟩
abbrev main_cst_332 : Ref sig .tc := ⟨.hbm, 1926, rfl⟩
abbrev main_v1573 : Ref sig .tc := ⟨.hbm, 1927, rfl⟩
abbrev main_v1574 : Ref sig .tc := ⟨.hbm, 1928, rfl⟩
abbrev main_v1575 : Ref sig .tc := ⟨.hbm, 1929, rfl⟩
abbrev main_v1576 : Ref sig .tc := ⟨.hbm, 1930, rfl⟩
abbrev main_v1577 : Ref sig .tc := ⟨.hbm, 1931, rfl⟩
abbrev main_c_333 : Ref sig .tc := ⟨.hbm, 1932, rfl⟩
abbrev main_v1578 : Ref sig .tc := ⟨.hbm, 1933, rfl⟩
abbrev main_v1579 : Ref sig .tc := ⟨.hbm, 1934, rfl⟩
abbrev main_c_334 : Ref sig .tc := ⟨.hbm, 1935, rfl⟩
abbrev main_v1580 : Ref sig .tc := ⟨.hbm, 1936, rfl⟩
abbrev main_v1581 : Ref sig .tc := ⟨.hbm, 1937, rfl⟩
abbrev main_v1582 : Ref sig .tc := ⟨.hbm, 1938, rfl⟩
abbrev main_v1583 : Ref sig .tc := ⟨.hbm, 1939, rfl⟩
abbrev main_v1584 : Ref sig .tc := ⟨.hbm, 1940, rfl⟩
abbrev main_v1585 : Ref sig .tc := ⟨.hbm, 1941, rfl⟩
abbrev main_v1586 : Ref sig .tc := ⟨.hbm, 1942, rfl⟩
abbrev main_cst_335 : Ref sig .tc := ⟨.hbm, 1943, rfl⟩
abbrev main_v1587 : Ref sig .tc := ⟨.hbm, 1944, rfl⟩
abbrev main_v1588 : Ref sig .tc := ⟨.hbm, 1945, rfl⟩
abbrev main_v1589 : Ref sig .tc := ⟨.hbm, 1946, rfl⟩
abbrev main_v1590 : Ref sig .tc := ⟨.hbm, 1947, rfl⟩
abbrev main_v1591 : Ref sig .tc := ⟨.hbm, 1948, rfl⟩
abbrev main_v1592 : Ref sig .tc := ⟨.hbm, 1949, rfl⟩
abbrev main_cst_336 : Ref sig .tc := ⟨.hbm, 1950, rfl⟩
abbrev main_v1593 : Ref sig .tc := ⟨.hbm, 1951, rfl⟩
abbrev main_v1594 : Ref sig .tc := ⟨.hbm, 1952, rfl⟩
abbrev main_v1595 : Ref sig .tc := ⟨.hbm, 1953, rfl⟩
abbrev main_v1596 : Ref sig .tc := ⟨.hbm, 1954, rfl⟩
abbrev main_v1597 : Ref sig .tc := ⟨.hbm, 1955, rfl⟩
abbrev main_c_337 : Ref sig .tc := ⟨.hbm, 1956, rfl⟩
abbrev main_v1598 : Ref sig .tc := ⟨.hbm, 1957, rfl⟩
abbrev main_v1599 : Ref sig .tc := ⟨.hbm, 1958, rfl⟩
abbrev main_c_338 : Ref sig .tc := ⟨.hbm, 1959, rfl⟩
abbrev main_v1600 : Ref sig .tc := ⟨.hbm, 1960, rfl⟩
abbrev main_v1601 : Ref sig .tc := ⟨.hbm, 1961, rfl⟩
abbrev main_v1602 : Ref sig .tc := ⟨.hbm, 1962, rfl⟩
abbrev main_v1603 : Ref sig .tc := ⟨.hbm, 1963, rfl⟩
abbrev main_v1604 : Ref sig .tc := ⟨.hbm, 1964, rfl⟩
abbrev main_v1605 : Ref sig .tc := ⟨.hbm, 1965, rfl⟩
abbrev main_v1606 : Ref sig .tc := ⟨.hbm, 1966, rfl⟩
abbrev main_cst_339 : Ref sig .tc := ⟨.hbm, 1967, rfl⟩
abbrev main_v1607 : Ref sig .tc := ⟨.hbm, 1968, rfl⟩
abbrev main_v1608 : Ref sig .tc := ⟨.hbm, 1969, rfl⟩
abbrev main_v1609 : Ref sig .tc := ⟨.hbm, 1970, rfl⟩
abbrev main_v1610 : Ref sig .tc := ⟨.hbm, 1971, rfl⟩
abbrev main_v1611 : Ref sig .tc := ⟨.hbm, 1972, rfl⟩
abbrev main_c_340 : Ref sig .tc := ⟨.hbm, 1973, rfl⟩
abbrev main_v1612 : Ref sig .tc := ⟨.hbm, 1974, rfl⟩
abbrev main_v1613 : Ref sig .tc := ⟨.hbm, 1975, rfl⟩
abbrev main_c_341 : Ref sig .tc := ⟨.hbm, 1976, rfl⟩
abbrev main_v1614 : Ref sig .tc := ⟨.hbm, 1977, rfl⟩
abbrev main_v1615 : Ref sig .tc := ⟨.hbm, 1978, rfl⟩
abbrev main_v1616 : Ref sig .tc := ⟨.hbm, 1979, rfl⟩
abbrev main_v1617 : Ref sig .tc := ⟨.hbm, 1980, rfl⟩
abbrev main_v1618 : Ref sig .tc := ⟨.hbm, 1981, rfl⟩
abbrev main_v1619 : Ref sig .tc := ⟨.hbm, 1982, rfl⟩
abbrev main_v1620 : Ref sig .tc := ⟨.hbm, 1983, rfl⟩
abbrev main_cst_342 : Ref sig .tc := ⟨.hbm, 1984, rfl⟩
abbrev main_v1621 : Ref sig .tc := ⟨.hbm, 1985, rfl⟩
abbrev main_v1622 : Ref sig .tc := ⟨.hbm, 1986, rfl⟩
abbrev main_v1623 : Ref sig .tc := ⟨.hbm, 1987, rfl⟩
abbrev main_v1624 : Ref sig .tc := ⟨.hbm, 1988, rfl⟩
abbrev main_v1625 : Ref sig .tc := ⟨.hbm, 1989, rfl⟩
abbrev main_c_343 : Ref sig .tc := ⟨.hbm, 1990, rfl⟩
abbrev main_v1626 : Ref sig .tc := ⟨.hbm, 1991, rfl⟩
abbrev main_v1627 : Ref sig .tc := ⟨.hbm, 1992, rfl⟩
abbrev main_c_344 : Ref sig .tc := ⟨.hbm, 1993, rfl⟩
abbrev main_v1628 : Ref sig .tc := ⟨.hbm, 1994, rfl⟩
abbrev main_v1629 : Ref sig .tc := ⟨.hbm, 1995, rfl⟩
abbrev main_v1630 : Ref sig .tc := ⟨.hbm, 1996, rfl⟩
abbrev main_v1631 : Ref sig .tc := ⟨.hbm, 1997, rfl⟩
abbrev main_v1632 : Ref sig .tc := ⟨.hbm, 1998, rfl⟩
abbrev main_v1633 : Ref sig .tc := ⟨.hbm, 1999, rfl⟩
abbrev main_v1634 : Ref sig .tc := ⟨.hbm, 2000, rfl⟩
abbrev main_cst_345 : Ref sig .tc := ⟨.hbm, 2001, rfl⟩
abbrev main_v1635 : Ref sig .tc := ⟨.hbm, 2002, rfl⟩
abbrev main_v1636 : Ref sig .tc := ⟨.hbm, 2003, rfl⟩
abbrev main_v1637 : Ref sig .tc := ⟨.hbm, 2004, rfl⟩
abbrev main_v1638 : Ref sig .tc := ⟨.hbm, 2005, rfl⟩
abbrev main_v1639 : Ref sig .tc := ⟨.hbm, 2006, rfl⟩
abbrev main_c_346 : Ref sig .tc := ⟨.hbm, 2007, rfl⟩
abbrev main_v1640 : Ref sig .tc := ⟨.hbm, 2008, rfl⟩
abbrev main_v1641 : Ref sig .tc := ⟨.hbm, 2009, rfl⟩
abbrev main_c_347 : Ref sig .tc := ⟨.hbm, 2010, rfl⟩
abbrev main_v1642 : Ref sig .tc := ⟨.hbm, 2011, rfl⟩
abbrev main_v1643 : Ref sig .tc := ⟨.hbm, 2012, rfl⟩
abbrev main_v1644 : Ref sig .tc := ⟨.hbm, 2013, rfl⟩
abbrev main_v1645 : Ref sig .tc := ⟨.hbm, 2014, rfl⟩
abbrev main_v1646 : Ref sig .tc := ⟨.hbm, 2015, rfl⟩
abbrev main_v1647 : Ref sig .tc := ⟨.hbm, 2016, rfl⟩
abbrev main_v1648 : Ref sig .tc := ⟨.hbm, 2017, rfl⟩
abbrev main_cst_348 : Ref sig .tc := ⟨.hbm, 2018, rfl⟩
abbrev main_v1649 : Ref sig .tc := ⟨.hbm, 2019, rfl⟩
abbrev main_v1650 : Ref sig .tc := ⟨.hbm, 2020, rfl⟩
abbrev main_v1651 : Ref sig .tc := ⟨.hbm, 2021, rfl⟩
abbrev main_v1652 : Ref sig .tc := ⟨.hbm, 2022, rfl⟩
abbrev main_v1653 : Ref sig .tc := ⟨.hbm, 2023, rfl⟩
abbrev main_c_349 : Ref sig .tc := ⟨.hbm, 2024, rfl⟩
abbrev main_v1654 : Ref sig .tc := ⟨.hbm, 2025, rfl⟩
abbrev main_v1655 : Ref sig .tc := ⟨.hbm, 2026, rfl⟩
abbrev main_c_350 : Ref sig .tc := ⟨.hbm, 2027, rfl⟩
abbrev main_v1656 : Ref sig .tc := ⟨.hbm, 2028, rfl⟩
abbrev main_v1657 : Ref sig .tc := ⟨.hbm, 2029, rfl⟩
abbrev main_v1658 : Ref sig .tc := ⟨.hbm, 2030, rfl⟩
abbrev main_v1659 : Ref sig .tc := ⟨.hbm, 2031, rfl⟩
abbrev main_v1660 : Ref sig .tc := ⟨.hbm, 2032, rfl⟩
abbrev main_v1661 : Ref sig .tc := ⟨.hbm, 2033, rfl⟩
abbrev main_v1662 : Ref sig .tc := ⟨.hbm, 2034, rfl⟩
abbrev main_cst_351 : Ref sig .tc := ⟨.hbm, 2035, rfl⟩
abbrev main_v1663 : Ref sig .tc := ⟨.hbm, 2036, rfl⟩
abbrev main_v1664 : Ref sig .tc := ⟨.hbm, 2037, rfl⟩
abbrev main_v1665 : Ref sig .tc := ⟨.hbm, 2038, rfl⟩
abbrev main_v1666 : Ref sig .tc := ⟨.hbm, 2039, rfl⟩
abbrev main_v1667 : Ref sig .tc := ⟨.hbm, 2040, rfl⟩
abbrev main_c_352 : Ref sig .tc := ⟨.hbm, 2041, rfl⟩
abbrev main_v1668 : Ref sig .tc := ⟨.hbm, 2042, rfl⟩
abbrev main_v1669 : Ref sig .tc := ⟨.hbm, 2043, rfl⟩
abbrev main_c_353 : Ref sig .tc := ⟨.hbm, 2044, rfl⟩
abbrev main_v1670 : Ref sig .tc := ⟨.hbm, 2045, rfl⟩
abbrev main_v1671 : Ref sig .tc := ⟨.hbm, 2046, rfl⟩
abbrev main_v1672 : Ref sig .tc := ⟨.hbm, 2047, rfl⟩
abbrev main_v1673 : Ref sig .tc := ⟨.hbm, 2048, rfl⟩
abbrev main_v1674 : Ref sig .tc := ⟨.hbm, 2049, rfl⟩
abbrev main_v1675 : Ref sig .tc := ⟨.hbm, 2050, rfl⟩
abbrev main_v1676 : Ref sig .tc := ⟨.hbm, 2051, rfl⟩
abbrev main_cst_354 : Ref sig .tc := ⟨.hbm, 2052, rfl⟩
abbrev main_v1677 : Ref sig .tc := ⟨.hbm, 2053, rfl⟩
abbrev main_v1678 : Ref sig .tc := ⟨.hbm, 2054, rfl⟩
abbrev main_v1679 : Ref sig .tc := ⟨.hbm, 2055, rfl⟩
abbrev main_v1680 : Ref sig .tc := ⟨.hbm, 2056, rfl⟩
abbrev main_v1681 : Ref sig .tc := ⟨.hbm, 2057, rfl⟩
abbrev main_c_355 : Ref sig .tc := ⟨.hbm, 2058, rfl⟩
abbrev main_v1682 : Ref sig .tc := ⟨.hbm, 2059, rfl⟩
abbrev main_v1683 : Ref sig .tc := ⟨.hbm, 2060, rfl⟩
abbrev main_c_356 : Ref sig .tc := ⟨.hbm, 2061, rfl⟩
abbrev main_v1684 : Ref sig .tc := ⟨.hbm, 2062, rfl⟩
abbrev main_v1685 : Ref sig .tc := ⟨.hbm, 2063, rfl⟩
abbrev main_v1686 : Ref sig .tc := ⟨.hbm, 2064, rfl⟩
abbrev main_v1687 : Ref sig .tc := ⟨.hbm, 2065, rfl⟩
abbrev main_v1688 : Ref sig .tc := ⟨.hbm, 2066, rfl⟩
abbrev main_v1689 : Ref sig .tc := ⟨.hbm, 2067, rfl⟩
abbrev main_v1690 : Ref sig .tc := ⟨.hbm, 2068, rfl⟩
abbrev main_cst_357 : Ref sig .tc := ⟨.hbm, 2069, rfl⟩
abbrev main_v1691 : Ref sig .tc := ⟨.hbm, 2070, rfl⟩
abbrev main_v1692 : Ref sig .tc := ⟨.hbm, 2071, rfl⟩
abbrev main_v1693 : Ref sig .tc := ⟨.hbm, 2072, rfl⟩
abbrev main_v1694 : Ref sig .tc := ⟨.hbm, 2073, rfl⟩
abbrev main_v1695 : Ref sig .tc := ⟨.hbm, 2074, rfl⟩
abbrev main_c_358 : Ref sig .tc := ⟨.hbm, 2075, rfl⟩
abbrev main_v1696 : Ref sig .tc := ⟨.hbm, 2076, rfl⟩
abbrev main_v1697 : Ref sig .tc := ⟨.hbm, 2077, rfl⟩
abbrev main_c_359 : Ref sig .tc := ⟨.hbm, 2078, rfl⟩
abbrev main_v1698 : Ref sig .tc := ⟨.hbm, 2079, rfl⟩
abbrev main_v1699 : Ref sig .tc := ⟨.hbm, 2080, rfl⟩
abbrev main_v1700 : Ref sig .tc := ⟨.hbm, 2081, rfl⟩
abbrev main_v1701 : Ref sig .tc := ⟨.hbm, 2082, rfl⟩
abbrev main_v1702 : Ref sig .tc := ⟨.hbm, 2083, rfl⟩
abbrev main_v1703 : Ref sig .tc := ⟨.hbm, 2084, rfl⟩
abbrev main_v1704 : Ref sig .tc := ⟨.hbm, 2085, rfl⟩
abbrev main_cst_360 : Ref sig .tc := ⟨.hbm, 2086, rfl⟩
abbrev main_v1705 : Ref sig .tc := ⟨.hbm, 2087, rfl⟩
abbrev main_v1706 : Ref sig .tc := ⟨.hbm, 2088, rfl⟩
abbrev main_v1707 : Ref sig .tc := ⟨.hbm, 2089, rfl⟩
abbrev main_v1708 : Ref sig .tc := ⟨.hbm, 2090, rfl⟩
abbrev main_v1709 : Ref sig .tc := ⟨.hbm, 2091, rfl⟩
abbrev main_v1710 : Ref sig .tc := ⟨.hbm, 2092, rfl⟩
abbrev main_cst_361 : Ref sig .tc := ⟨.hbm, 2093, rfl⟩
abbrev main_v1711 : Ref sig .tc := ⟨.hbm, 2094, rfl⟩
abbrev main_v1712 : Ref sig .tc := ⟨.hbm, 2095, rfl⟩
abbrev main_v1713 : Ref sig .tc := ⟨.hbm, 2096, rfl⟩
abbrev main_v1714 : Ref sig .tc := ⟨.hbm, 2097, rfl⟩
abbrev main_v1715 : Ref sig .tc := ⟨.hbm, 2098, rfl⟩
abbrev main_c_362 : Ref sig .tc := ⟨.hbm, 2099, rfl⟩
abbrev main_v1716 : Ref sig .tc := ⟨.hbm, 2100, rfl⟩
abbrev main_v1717 : Ref sig .tc := ⟨.hbm, 2101, rfl⟩
abbrev main_c_363 : Ref sig .tc := ⟨.hbm, 2102, rfl⟩
abbrev main_v1718 : Ref sig .tc := ⟨.hbm, 2103, rfl⟩
abbrev main_v1719 : Ref sig .tc := ⟨.hbm, 2104, rfl⟩
abbrev main_v1720 : Ref sig .tc := ⟨.hbm, 2105, rfl⟩
abbrev main_v1721 : Ref sig .tc := ⟨.hbm, 2106, rfl⟩
abbrev main_v1722 : Ref sig .tc := ⟨.hbm, 2107, rfl⟩
abbrev main_v1723 : Ref sig .tc := ⟨.hbm, 2108, rfl⟩
abbrev main_v1724 : Ref sig .tc := ⟨.hbm, 2109, rfl⟩
abbrev main_cst_364 : Ref sig .tc := ⟨.hbm, 2110, rfl⟩
abbrev main_v1725 : Ref sig .tc := ⟨.hbm, 2111, rfl⟩
abbrev main_v1726 : Ref sig .tc := ⟨.hbm, 2112, rfl⟩
abbrev main_v1727 : Ref sig .tc := ⟨.hbm, 2113, rfl⟩
abbrev main_v1728 : Ref sig .tc := ⟨.hbm, 2114, rfl⟩
abbrev main_v1729 : Ref sig .tc := ⟨.hbm, 2115, rfl⟩
abbrev main_c_365 : Ref sig .tc := ⟨.hbm, 2116, rfl⟩
abbrev main_v1730 : Ref sig .tc := ⟨.hbm, 2117, rfl⟩
abbrev main_v1731 : Ref sig .tc := ⟨.hbm, 2118, rfl⟩
abbrev main_c_366 : Ref sig .tc := ⟨.hbm, 2119, rfl⟩
abbrev main_v1732 : Ref sig .tc := ⟨.hbm, 2120, rfl⟩
abbrev main_v1733 : Ref sig .tc := ⟨.hbm, 2121, rfl⟩
abbrev main_v1734 : Ref sig .tc := ⟨.hbm, 2122, rfl⟩
abbrev main_v1735 : Ref sig .tc := ⟨.hbm, 2123, rfl⟩
abbrev main_v1736 : Ref sig .tc := ⟨.hbm, 2124, rfl⟩
abbrev main_v1737 : Ref sig .tc := ⟨.hbm, 2125, rfl⟩
abbrev main_v1738 : Ref sig .tc := ⟨.hbm, 2126, rfl⟩
abbrev main_cst_367 : Ref sig .tc := ⟨.hbm, 2127, rfl⟩
abbrev main_v1739 : Ref sig .tc := ⟨.hbm, 2128, rfl⟩
abbrev main_v1740 : Ref sig .tc := ⟨.hbm, 2129, rfl⟩
abbrev main_v1741 : Ref sig .tc := ⟨.hbm, 2130, rfl⟩
abbrev main_v1742 : Ref sig .tc := ⟨.hbm, 2131, rfl⟩
abbrev main_v1743 : Ref sig .tc := ⟨.hbm, 2132, rfl⟩
abbrev main_c_368 : Ref sig .tc := ⟨.hbm, 2133, rfl⟩
abbrev main_v1744 : Ref sig .tc := ⟨.hbm, 2134, rfl⟩
abbrev main_v1745 : Ref sig .tc := ⟨.hbm, 2135, rfl⟩
abbrev main_c_369 : Ref sig .tc := ⟨.hbm, 2136, rfl⟩
abbrev main_v1746 : Ref sig .tc := ⟨.hbm, 2137, rfl⟩
abbrev main_v1747 : Ref sig .tc := ⟨.hbm, 2138, rfl⟩
abbrev main_v1748 : Ref sig .tc := ⟨.hbm, 2139, rfl⟩
abbrev main_v1749 : Ref sig .tc := ⟨.hbm, 2140, rfl⟩
abbrev main_v1750 : Ref sig .tc := ⟨.hbm, 2141, rfl⟩
abbrev main_v1751 : Ref sig .tc := ⟨.hbm, 2142, rfl⟩
abbrev main_v1752 : Ref sig .tc := ⟨.hbm, 2143, rfl⟩
abbrev main_cst_370 : Ref sig .tc := ⟨.hbm, 2144, rfl⟩
abbrev main_v1753 : Ref sig .tc := ⟨.hbm, 2145, rfl⟩
abbrev main_v1754 : Ref sig .tc := ⟨.hbm, 2146, rfl⟩
abbrev main_v1755 : Ref sig .tc := ⟨.hbm, 2147, rfl⟩
abbrev main_v1756 : Ref sig .tc := ⟨.hbm, 2148, rfl⟩
abbrev main_v1757 : Ref sig .tc := ⟨.hbm, 2149, rfl⟩
abbrev main_c_371 : Ref sig .tc := ⟨.hbm, 2150, rfl⟩
abbrev main_v1758 : Ref sig .tc := ⟨.hbm, 2151, rfl⟩
abbrev main_v1759 : Ref sig .tc := ⟨.hbm, 2152, rfl⟩
abbrev main_c_372 : Ref sig .tc := ⟨.hbm, 2153, rfl⟩
abbrev main_v1760 : Ref sig .tc := ⟨.hbm, 2154, rfl⟩
abbrev main_v1761 : Ref sig .tc := ⟨.hbm, 2155, rfl⟩
abbrev main_v1762 : Ref sig .tc := ⟨.hbm, 2156, rfl⟩
abbrev main_v1763 : Ref sig .tc := ⟨.hbm, 2157, rfl⟩
abbrev main_v1764 : Ref sig .tc := ⟨.hbm, 2158, rfl⟩
abbrev main_v1765 : Ref sig .tc := ⟨.hbm, 2159, rfl⟩
abbrev main_v1766 : Ref sig .tc := ⟨.hbm, 2160, rfl⟩
abbrev main_cst_373 : Ref sig .tc := ⟨.hbm, 2161, rfl⟩
abbrev main_v1767 : Ref sig .tc := ⟨.hbm, 2162, rfl⟩
abbrev main_v1768 : Ref sig .tc := ⟨.hbm, 2163, rfl⟩
abbrev main_v1769 : Ref sig .tc := ⟨.hbm, 2164, rfl⟩
abbrev main_v1770 : Ref sig .tc := ⟨.hbm, 2165, rfl⟩
abbrev main_v1771 : Ref sig .tc := ⟨.hbm, 2166, rfl⟩
abbrev main_c_374 : Ref sig .tc := ⟨.hbm, 2167, rfl⟩
abbrev main_v1772 : Ref sig .tc := ⟨.hbm, 2168, rfl⟩
abbrev main_v1773 : Ref sig .tc := ⟨.hbm, 2169, rfl⟩
abbrev main_c_375 : Ref sig .tc := ⟨.hbm, 2170, rfl⟩
abbrev main_v1774 : Ref sig .tc := ⟨.hbm, 2171, rfl⟩
abbrev main_v1775 : Ref sig .tc := ⟨.hbm, 2172, rfl⟩
abbrev main_v1776 : Ref sig .tc := ⟨.hbm, 2173, rfl⟩
abbrev main_v1777 : Ref sig .tc := ⟨.hbm, 2174, rfl⟩
abbrev main_v1778 : Ref sig .tc := ⟨.hbm, 2175, rfl⟩
abbrev main_v1779 : Ref sig .tc := ⟨.hbm, 2176, rfl⟩
abbrev main_v1780 : Ref sig .tc := ⟨.hbm, 2177, rfl⟩
abbrev main_cst_376 : Ref sig .tc := ⟨.hbm, 2178, rfl⟩
abbrev main_v1781 : Ref sig .tc := ⟨.hbm, 2179, rfl⟩
abbrev main_v1782 : Ref sig .tc := ⟨.hbm, 2180, rfl⟩
abbrev main_v1783 : Ref sig .tc := ⟨.hbm, 2181, rfl⟩
abbrev main_v1784 : Ref sig .tc := ⟨.hbm, 2182, rfl⟩
abbrev main_v1785 : Ref sig .tc := ⟨.hbm, 2183, rfl⟩
abbrev main_c_377 : Ref sig .tc := ⟨.hbm, 2184, rfl⟩
abbrev main_v1786 : Ref sig .tc := ⟨.hbm, 2185, rfl⟩
abbrev main_v1787 : Ref sig .tc := ⟨.hbm, 2186, rfl⟩
abbrev main_c_378 : Ref sig .tc := ⟨.hbm, 2187, rfl⟩
abbrev main_v1788 : Ref sig .tc := ⟨.hbm, 2188, rfl⟩
abbrev main_v1789 : Ref sig .tc := ⟨.hbm, 2189, rfl⟩
abbrev main_v1790 : Ref sig .tc := ⟨.hbm, 2190, rfl⟩
abbrev main_v1791 : Ref sig .tc := ⟨.hbm, 2191, rfl⟩
abbrev main_v1792 : Ref sig .tc := ⟨.hbm, 2192, rfl⟩
abbrev main_v1793 : Ref sig .tc := ⟨.hbm, 2193, rfl⟩
abbrev main_v1794 : Ref sig .tc := ⟨.hbm, 2194, rfl⟩
abbrev main_cst_379 : Ref sig .tc := ⟨.hbm, 2195, rfl⟩
abbrev main_v1795 : Ref sig .tc := ⟨.hbm, 2196, rfl⟩
abbrev main_v1796 : Ref sig .tc := ⟨.hbm, 2197, rfl⟩
abbrev main_v1797 : Ref sig .tc := ⟨.hbm, 2198, rfl⟩
abbrev main_v1798 : Ref sig .tc := ⟨.hbm, 2199, rfl⟩
abbrev main_v1799 : Ref sig .tc := ⟨.hbm, 2200, rfl⟩
abbrev main_c_380 : Ref sig .tc := ⟨.hbm, 2201, rfl⟩
abbrev main_v1800 : Ref sig .tc := ⟨.hbm, 2202, rfl⟩
abbrev main_v1801 : Ref sig .tc := ⟨.hbm, 2203, rfl⟩
abbrev main_c_381 : Ref sig .tc := ⟨.hbm, 2204, rfl⟩
abbrev main_v1802 : Ref sig .tc := ⟨.hbm, 2205, rfl⟩
abbrev main_v1803 : Ref sig .tc := ⟨.hbm, 2206, rfl⟩
abbrev main_v1804 : Ref sig .tc := ⟨.hbm, 2207, rfl⟩
abbrev main_v1805 : Ref sig .tc := ⟨.hbm, 2208, rfl⟩
abbrev main_v1806 : Ref sig .tc := ⟨.hbm, 2209, rfl⟩
abbrev main_v1807 : Ref sig .tc := ⟨.hbm, 2210, rfl⟩
abbrev main_v1808 : Ref sig .tc := ⟨.hbm, 2211, rfl⟩
abbrev main_cst_382 : Ref sig .tc := ⟨.hbm, 2212, rfl⟩
abbrev main_v1809 : Ref sig .tc := ⟨.hbm, 2213, rfl⟩
abbrev main_v1810 : Ref sig .tc := ⟨.hbm, 2214, rfl⟩
abbrev main_v1811 : Ref sig .tc := ⟨.hbm, 2215, rfl⟩
abbrev main_v1812 : Ref sig .tc := ⟨.hbm, 2216, rfl⟩
abbrev main_v1813 : Ref sig .tc := ⟨.hbm, 2217, rfl⟩
abbrev main_c_383 : Ref sig .tc := ⟨.hbm, 2218, rfl⟩
abbrev main_v1814 : Ref sig .tc := ⟨.hbm, 2219, rfl⟩
abbrev main_v1815 : Ref sig .tc := ⟨.hbm, 2220, rfl⟩
abbrev main_c_384 : Ref sig .tc := ⟨.hbm, 2221, rfl⟩
abbrev main_v1816 : Ref sig .tc := ⟨.hbm, 2222, rfl⟩
abbrev main_v1817 : Ref sig .tc := ⟨.hbm, 2223, rfl⟩
abbrev main_v1818 : Ref sig .tc := ⟨.hbm, 2224, rfl⟩
abbrev main_v1819 : Ref sig .tc := ⟨.hbm, 2225, rfl⟩
abbrev main_v1820 : Ref sig .tc := ⟨.hbm, 2226, rfl⟩
abbrev main_v1821 : Ref sig .tc := ⟨.hbm, 2227, rfl⟩
abbrev main_v1822 : Ref sig .tc := ⟨.hbm, 2228, rfl⟩
abbrev main_cst_385 : Ref sig .tc := ⟨.hbm, 2229, rfl⟩
abbrev main_v1823 : Ref sig .tc := ⟨.hbm, 2230, rfl⟩
abbrev main_v1824 : Ref sig .tc := ⟨.hbm, 2231, rfl⟩
abbrev main_v1825 : Ref sig .tc := ⟨.hbm, 2232, rfl⟩
abbrev main_v1826 : Ref sig .tc := ⟨.hbm, 2233, rfl⟩
abbrev main_v1827 : Ref sig .tc := ⟨.hbm, 2234, rfl⟩
abbrev main_c_386 : Ref sig .tc := ⟨.hbm, 2235, rfl⟩
abbrev main_v1828 : Ref sig .tc := ⟨.hbm, 2236, rfl⟩
abbrev main_v1829 : Ref sig .tc := ⟨.hbm, 2237, rfl⟩
abbrev main_c_387 : Ref sig .tc := ⟨.hbm, 2238, rfl⟩
abbrev main_v1830 : Ref sig .tc := ⟨.hbm, 2239, rfl⟩
abbrev main_v1831 : Ref sig .tc := ⟨.hbm, 2240, rfl⟩
abbrev main_v1832 : Ref sig .tc := ⟨.hbm, 2241, rfl⟩
abbrev main_v1833 : Ref sig .tc := ⟨.hbm, 2242, rfl⟩
abbrev main_v1834 : Ref sig .tc := ⟨.hbm, 2243, rfl⟩
abbrev main_v1835 : Ref sig .tc := ⟨.hbm, 2244, rfl⟩
abbrev main_v1836 : Ref sig .tc := ⟨.hbm, 2245, rfl⟩
abbrev main_cst_388 : Ref sig .tc := ⟨.hbm, 2246, rfl⟩
abbrev main_v1837 : Ref sig .tc := ⟨.hbm, 2247, rfl⟩
abbrev main_v1838 : Ref sig .tc := ⟨.hbm, 2248, rfl⟩
abbrev main_v1839 : Ref sig .tc := ⟨.hbm, 2249, rfl⟩
abbrev main_v1840 : Ref sig .tc := ⟨.hbm, 2250, rfl⟩
abbrev main_v1841 : Ref sig .tc := ⟨.hbm, 2251, rfl⟩
abbrev main_v1842 : Ref sig .tc := ⟨.hbm, 2252, rfl⟩
abbrev main_cst_389 : Ref sig .tc := ⟨.hbm, 2253, rfl⟩
abbrev main_v1843 : Ref sig .tc := ⟨.hbm, 2254, rfl⟩
abbrev main_v1844 : Ref sig .tc := ⟨.hbm, 2255, rfl⟩
abbrev main_v1845 : Ref sig .tc := ⟨.hbm, 2256, rfl⟩
abbrev main_v1846 : Ref sig .tc := ⟨.hbm, 2257, rfl⟩
abbrev main_v1847 : Ref sig .tc := ⟨.hbm, 2258, rfl⟩
abbrev main_c_390 : Ref sig .tc := ⟨.hbm, 2259, rfl⟩
abbrev main_v1848 : Ref sig .tc := ⟨.hbm, 2260, rfl⟩
abbrev main_v1849 : Ref sig .tc := ⟨.hbm, 2261, rfl⟩
abbrev main_c_391 : Ref sig .tc := ⟨.hbm, 2262, rfl⟩
abbrev main_v1850 : Ref sig .tc := ⟨.hbm, 2263, rfl⟩
abbrev main_v1851 : Ref sig .tc := ⟨.hbm, 2264, rfl⟩
abbrev main_v1852 : Ref sig .tc := ⟨.hbm, 2265, rfl⟩
abbrev main_v1853 : Ref sig .tc := ⟨.hbm, 2266, rfl⟩
abbrev main_v1854 : Ref sig .tc := ⟨.hbm, 2267, rfl⟩
abbrev main_v1855 : Ref sig .tc := ⟨.hbm, 2268, rfl⟩
abbrev main_v1856 : Ref sig .tc := ⟨.hbm, 2269, rfl⟩
abbrev main_cst_392 : Ref sig .tc := ⟨.hbm, 2270, rfl⟩
abbrev main_v1857 : Ref sig .tc := ⟨.hbm, 2271, rfl⟩
abbrev main_v1858 : Ref sig .tc := ⟨.hbm, 2272, rfl⟩
abbrev main_v1859 : Ref sig .tc := ⟨.hbm, 2273, rfl⟩
abbrev main_v1860 : Ref sig .tc := ⟨.hbm, 2274, rfl⟩
abbrev main_v1861 : Ref sig .tc := ⟨.hbm, 2275, rfl⟩
abbrev main_c_393 : Ref sig .tc := ⟨.hbm, 2276, rfl⟩
abbrev main_v1862 : Ref sig .tc := ⟨.hbm, 2277, rfl⟩
abbrev main_v1863 : Ref sig .tc := ⟨.hbm, 2278, rfl⟩
abbrev main_c_394 : Ref sig .tc := ⟨.hbm, 2279, rfl⟩
abbrev main_v1864 : Ref sig .tc := ⟨.hbm, 2280, rfl⟩
abbrev main_v1865 : Ref sig .tc := ⟨.hbm, 2281, rfl⟩
abbrev main_v1866 : Ref sig .tc := ⟨.hbm, 2282, rfl⟩
abbrev main_v1867 : Ref sig .tc := ⟨.hbm, 2283, rfl⟩
abbrev main_v1868 : Ref sig .tc := ⟨.hbm, 2284, rfl⟩
abbrev main_v1869 : Ref sig .tc := ⟨.hbm, 2285, rfl⟩
abbrev main_v1870 : Ref sig .tc := ⟨.hbm, 2286, rfl⟩
abbrev main_cst_395 : Ref sig .tc := ⟨.hbm, 2287, rfl⟩
abbrev main_v1871 : Ref sig .tc := ⟨.hbm, 2288, rfl⟩
abbrev main_v1872 : Ref sig .tc := ⟨.hbm, 2289, rfl⟩
abbrev main_v1873 : Ref sig .tc := ⟨.hbm, 2290, rfl⟩
abbrev main_v1874 : Ref sig .tc := ⟨.hbm, 2291, rfl⟩
abbrev main_v1875 : Ref sig .tc := ⟨.hbm, 2292, rfl⟩
abbrev main_c_396 : Ref sig .tc := ⟨.hbm, 2293, rfl⟩
abbrev main_v1876 : Ref sig .tc := ⟨.hbm, 2294, rfl⟩
abbrev main_v1877 : Ref sig .tc := ⟨.hbm, 2295, rfl⟩
abbrev main_c_397 : Ref sig .tc := ⟨.hbm, 2296, rfl⟩
abbrev main_v1878 : Ref sig .tc := ⟨.hbm, 2297, rfl⟩
abbrev main_v1879 : Ref sig .tc := ⟨.hbm, 2298, rfl⟩
abbrev main_v1880 : Ref sig .tc := ⟨.hbm, 2299, rfl⟩
abbrev main_v1881 : Ref sig .tc := ⟨.hbm, 2300, rfl⟩
abbrev main_v1882 : Ref sig .tc := ⟨.hbm, 2301, rfl⟩
abbrev main_v1883 : Ref sig .tc := ⟨.hbm, 2302, rfl⟩
abbrev main_v1884 : Ref sig .tc := ⟨.hbm, 2303, rfl⟩
abbrev main_cst_398 : Ref sig .tc := ⟨.hbm, 2304, rfl⟩
abbrev main_v1885 : Ref sig .tc := ⟨.hbm, 2305, rfl⟩
abbrev main_v1886 : Ref sig .tc := ⟨.hbm, 2306, rfl⟩
abbrev main_v1887 : Ref sig .tc := ⟨.hbm, 2307, rfl⟩
abbrev main_v1888 : Ref sig .tc := ⟨.hbm, 2308, rfl⟩
abbrev main_v1889 : Ref sig .tc := ⟨.hbm, 2309, rfl⟩
abbrev main_c_399 : Ref sig .tc := ⟨.hbm, 2310, rfl⟩
abbrev main_v1890 : Ref sig .tc := ⟨.hbm, 2311, rfl⟩
abbrev main_v1891 : Ref sig .tc := ⟨.hbm, 2312, rfl⟩
abbrev main_c_400 : Ref sig .tc := ⟨.hbm, 2313, rfl⟩
abbrev main_v1892 : Ref sig .tc := ⟨.hbm, 2314, rfl⟩
abbrev main_v1893 : Ref sig .tc := ⟨.hbm, 2315, rfl⟩
abbrev main_v1894 : Ref sig .tc := ⟨.hbm, 2316, rfl⟩
abbrev main_v1895 : Ref sig .tc := ⟨.hbm, 2317, rfl⟩
abbrev main_v1896 : Ref sig .tc := ⟨.hbm, 2318, rfl⟩
abbrev main_v1897 : Ref sig .tc := ⟨.hbm, 2319, rfl⟩
abbrev main_v1898 : Ref sig .tc := ⟨.hbm, 2320, rfl⟩
abbrev main_cst_401 : Ref sig .tc := ⟨.hbm, 2321, rfl⟩
abbrev main_v1899 : Ref sig .tc := ⟨.hbm, 2322, rfl⟩
abbrev main_v1900 : Ref sig .tc := ⟨.hbm, 2323, rfl⟩
abbrev main_v1901 : Ref sig .tc := ⟨.hbm, 2324, rfl⟩
abbrev main_v1902 : Ref sig .tc := ⟨.hbm, 2325, rfl⟩
abbrev main_v1903 : Ref sig .tc := ⟨.hbm, 2326, rfl⟩
abbrev main_c_402 : Ref sig .tc := ⟨.hbm, 2327, rfl⟩
abbrev main_v1904 : Ref sig .tc := ⟨.hbm, 2328, rfl⟩
abbrev main_v1905 : Ref sig .tc := ⟨.hbm, 2329, rfl⟩
abbrev main_c_403 : Ref sig .tc := ⟨.hbm, 2330, rfl⟩
abbrev main_v1906 : Ref sig .tc := ⟨.hbm, 2331, rfl⟩
abbrev main_v1907 : Ref sig .tc := ⟨.hbm, 2332, rfl⟩
abbrev main_v1908 : Ref sig .tc := ⟨.hbm, 2333, rfl⟩
abbrev main_v1909 : Ref sig .tc := ⟨.hbm, 2334, rfl⟩
abbrev main_v1910 : Ref sig .tc := ⟨.hbm, 2335, rfl⟩
abbrev main_v1911 : Ref sig .tc := ⟨.hbm, 2336, rfl⟩
abbrev main_v1912 : Ref sig .tc := ⟨.hbm, 2337, rfl⟩
abbrev main_cst_404 : Ref sig .tc := ⟨.hbm, 2338, rfl⟩
abbrev main_v1913 : Ref sig .tc := ⟨.hbm, 2339, rfl⟩
abbrev main_v1914 : Ref sig .tc := ⟨.hbm, 2340, rfl⟩
abbrev main_v1915 : Ref sig .tc := ⟨.hbm, 2341, rfl⟩
abbrev main_v1916 : Ref sig .tc := ⟨.hbm, 2342, rfl⟩
abbrev main_v1917 : Ref sig .tc := ⟨.hbm, 2343, rfl⟩
abbrev main_c_405 : Ref sig .tc := ⟨.hbm, 2344, rfl⟩
abbrev main_v1918 : Ref sig .tc := ⟨.hbm, 2345, rfl⟩
abbrev main_v1919 : Ref sig .tc := ⟨.hbm, 2346, rfl⟩
abbrev main_c_406 : Ref sig .tc := ⟨.hbm, 2347, rfl⟩
abbrev main_v1920 : Ref sig .tc := ⟨.hbm, 2348, rfl⟩
abbrev main_v1921 : Ref sig .tc := ⟨.hbm, 2349, rfl⟩
abbrev main_v1922 : Ref sig .tc := ⟨.hbm, 2350, rfl⟩
abbrev main_v1923 : Ref sig .tc := ⟨.hbm, 2351, rfl⟩
abbrev main_v1924 : Ref sig .tc := ⟨.hbm, 2352, rfl⟩
abbrev main_v1925 : Ref sig .tc := ⟨.hbm, 2353, rfl⟩
abbrev main_v1926 : Ref sig .tc := ⟨.hbm, 2354, rfl⟩
abbrev main_cst_407 : Ref sig .tc := ⟨.hbm, 2355, rfl⟩
abbrev main_v1927 : Ref sig .tc := ⟨.hbm, 2356, rfl⟩
abbrev main_v1928 : Ref sig .tc := ⟨.hbm, 2357, rfl⟩
abbrev main_v1929 : Ref sig .tc := ⟨.hbm, 2358, rfl⟩
abbrev main_v1930 : Ref sig .tc := ⟨.hbm, 2359, rfl⟩
abbrev main_v1931 : Ref sig .tc := ⟨.hbm, 2360, rfl⟩
abbrev main_c_408 : Ref sig .tc := ⟨.hbm, 2361, rfl⟩
abbrev main_v1932 : Ref sig .tc := ⟨.hbm, 2362, rfl⟩
abbrev main_v1933 : Ref sig .tc := ⟨.hbm, 2363, rfl⟩
abbrev main_c_409 : Ref sig .tc := ⟨.hbm, 2364, rfl⟩
abbrev main_v1934 : Ref sig .tc := ⟨.hbm, 2365, rfl⟩
abbrev main_v1935 : Ref sig .tc := ⟨.hbm, 2366, rfl⟩
abbrev main_v1936 : Ref sig .tc := ⟨.hbm, 2367, rfl⟩
abbrev main_v1937 : Ref sig .tc := ⟨.hbm, 2368, rfl⟩
abbrev main_v1938 : Ref sig .tc := ⟨.hbm, 2369, rfl⟩
abbrev main_v1939 : Ref sig .tc := ⟨.hbm, 2370, rfl⟩
abbrev main_v1940 : Ref sig .tc := ⟨.hbm, 2371, rfl⟩
abbrev main_cst_410 : Ref sig .tc := ⟨.hbm, 2372, rfl⟩
abbrev main_v1941 : Ref sig .tc := ⟨.hbm, 2373, rfl⟩
abbrev main_v1942 : Ref sig .tc := ⟨.hbm, 2374, rfl⟩
abbrev main_v1943 : Ref sig .tc := ⟨.hbm, 2375, rfl⟩
abbrev main_v1944 : Ref sig .tc := ⟨.hbm, 2376, rfl⟩
abbrev main_v1945 : Ref sig .tc := ⟨.hbm, 2377, rfl⟩
abbrev main_c_411 : Ref sig .tc := ⟨.hbm, 2378, rfl⟩
abbrev main_v1946 : Ref sig .tc := ⟨.hbm, 2379, rfl⟩
abbrev main_v1947 : Ref sig .tc := ⟨.hbm, 2380, rfl⟩
abbrev main_c_412 : Ref sig .tc := ⟨.hbm, 2381, rfl⟩
abbrev main_v1948 : Ref sig .tc := ⟨.hbm, 2382, rfl⟩
abbrev main_v1949 : Ref sig .tc := ⟨.hbm, 2383, rfl⟩
abbrev main_v1950 : Ref sig .tc := ⟨.hbm, 2384, rfl⟩
abbrev main_v1951 : Ref sig .tc := ⟨.hbm, 2385, rfl⟩
abbrev main_v1952 : Ref sig .tc := ⟨.hbm, 2386, rfl⟩
abbrev main_v1953 : Ref sig .tc := ⟨.hbm, 2387, rfl⟩
abbrev main_v1954 : Ref sig .tc := ⟨.hbm, 2388, rfl⟩
abbrev main_cst_413 : Ref sig .tc := ⟨.hbm, 2389, rfl⟩
abbrev main_v1955 : Ref sig .tc := ⟨.hbm, 2390, rfl⟩
abbrev main_v1956 : Ref sig .tc := ⟨.hbm, 2391, rfl⟩
abbrev main_v1957 : Ref sig .tc := ⟨.hbm, 2392, rfl⟩
abbrev main_v1958 : Ref sig .tc := ⟨.hbm, 2393, rfl⟩
abbrev main_v1959 : Ref sig .tc := ⟨.hbm, 2394, rfl⟩
abbrev main_c_414 : Ref sig .tc := ⟨.hbm, 2395, rfl⟩
abbrev main_v1960 : Ref sig .tc := ⟨.hbm, 2396, rfl⟩
abbrev main_v1961 : Ref sig .tc := ⟨.hbm, 2397, rfl⟩
abbrev main_c_415 : Ref sig .tc := ⟨.hbm, 2398, rfl⟩
abbrev main_v1962 : Ref sig .tc := ⟨.hbm, 2399, rfl⟩
abbrev main_v1963 : Ref sig .tc := ⟨.hbm, 2400, rfl⟩
abbrev main_v1964 : Ref sig .tc := ⟨.hbm, 2401, rfl⟩
abbrev main_v1965 : Ref sig .tc := ⟨.hbm, 2402, rfl⟩
abbrev main_v1966 : Ref sig .tc := ⟨.hbm, 2403, rfl⟩
abbrev main_v1967 : Ref sig .tc := ⟨.hbm, 2404, rfl⟩
abbrev main_v1968 : Ref sig .tc := ⟨.hbm, 2405, rfl⟩
abbrev main_cst_416 : Ref sig .tc := ⟨.hbm, 2406, rfl⟩
abbrev main_v1969 : Ref sig .tc := ⟨.hbm, 2407, rfl⟩
abbrev main_v1970 : Ref sig .tc := ⟨.hbm, 2408, rfl⟩
abbrev main_v1971 : Ref sig .tc := ⟨.hbm, 2409, rfl⟩
abbrev main_v1972 : Ref sig .tc := ⟨.hbm, 2410, rfl⟩
abbrev main_v1973 : Ref sig .tc := ⟨.hbm, 2411, rfl⟩
abbrev main_c_417 : Ref sig .tc := ⟨.hbm, 2412, rfl⟩
abbrev main_v1974 : Ref sig .tc := ⟨.hbm, 2413, rfl⟩
abbrev main_v1975 : Ref sig .tc := ⟨.hbm, 2414, rfl⟩
abbrev main_c_418 : Ref sig .tc := ⟨.hbm, 2415, rfl⟩
abbrev main_v1976 : Ref sig .tc := ⟨.hbm, 2416, rfl⟩
abbrev main_v1977 : Ref sig .tc := ⟨.hbm, 2417, rfl⟩
abbrev main_v1978 : Ref sig .tc := ⟨.hbm, 2418, rfl⟩
abbrev main_v1979 : Ref sig .tc := ⟨.hbm, 2419, rfl⟩
abbrev main_v1980 : Ref sig .tc := ⟨.hbm, 2420, rfl⟩
abbrev main_v1981 : Ref sig .tc := ⟨.hbm, 2421, rfl⟩
abbrev main_v1982 : Ref sig .tc := ⟨.hbm, 2422, rfl⟩
abbrev main_cst_419 : Ref sig .tc := ⟨.hbm, 2423, rfl⟩
abbrev main_v1983 : Ref sig .tc := ⟨.hbm, 2424, rfl⟩
abbrev main_v1984 : Ref sig .tc := ⟨.hbm, 2425, rfl⟩
abbrev main_v1985 : Ref sig .tc := ⟨.hbm, 2426, rfl⟩
abbrev main_v1986 : Ref sig .tc := ⟨.hbm, 2427, rfl⟩
abbrev main_v1987 : Ref sig .tc := ⟨.hbm, 2428, rfl⟩
abbrev main_v1988 : Ref sig .tc := ⟨.hbm, 2429, rfl⟩
abbrev main_cst_420 : Ref sig .tc := ⟨.hbm, 2430, rfl⟩
abbrev main_v1989 : Ref sig .tc := ⟨.hbm, 2431, rfl⟩
abbrev main_v1990 : Ref sig .tc := ⟨.hbm, 2432, rfl⟩
abbrev main_v1991 : Ref sig .tc := ⟨.hbm, 2433, rfl⟩
abbrev main_v1992 : Ref sig .tc := ⟨.hbm, 2434, rfl⟩
abbrev main_call5_cst : Ref sig .tc := ⟨.hbm, 2435, rfl⟩
abbrev main_call5_v0 : Ref sig .tc := ⟨.hbm, 2436, rfl⟩
abbrev main_v1993 : Ref sig .tc := ⟨.hbm, 2437, rfl⟩
abbrev main_v1994 : Ref sig .tc := ⟨.hbm, 2438, rfl⟩
abbrev main_v1995 : Ref sig .tc := ⟨.hbm, 2439, rfl⟩
abbrev main_v1996 : Ref sig .tc := ⟨.hbm, 2440, rfl⟩
abbrev main_v1997 : Ref sig .tc := ⟨.hbm, 2441, rfl⟩

abbrev nD : Nat := 1
abbrev τ : Topo := Topo.v7x

variable {F : FTy → Type} [FloatOps F]
-- ==== Proof.Filter.lean ====
/- The filter of the reference, once for both layers: a polynomial of degree ten in one linear map.

   The reference multiplies the features ten times by `1 + A` or `1 - A`, where `A` is the normalized adjacency, and
   adds the eleven products with binomial weights.  Here the filter is written as a function of `A`, at any floats
   and any shape, and then shown to be the identity on real arrays when `A` acts on them as a linear map and every
   coefficient is one: the eleven weighted products are the binomial expansion of `((1 - A) + (1 + A)) ^ 10 / 2 ^ 10`. -/
module

public import Idealize.ShloMosaic.Lib.Pointwise
public import Mathlib.Data.Nat.Choose.Sum
public import Mathlib.Algebra.Module.LinearMap.End

@[expose] public section

noncomputable section

namespace Cert.Proof

open Idealize.ShloMosaic

section Terms

variable {F : FTy → Type} [FloatOps F] {s : Shape}

/-- `n` steps of `z ↦ z + A z` from `h`. -/
def stepsUp (A : FVec F s .f32 → FVec F s .f32) : ℕ → FVec F s .f32 → FVec F s .f32
  | 0, h => h
  | n + 1, h => addf (stepsUp A n h) (A (stepsUp A n h))

/-- `n` steps of `z ↦ z - A z` from `h`. -/
def stepsDown (A : FVec F s .f32 → FVec F s .f32) : ℕ → FVec F s .f32 → FVec F s .f32
  | 0, h => h
  | n + 1, h => subf (stepsDown A n h) (A (stepsDown A n h))

/-- One weighted product: the binomial weight `w`, a bit pattern, times the `k`-th coefficient, times `z`. -/
def weighted (hb : (⟨0, ![]⟩ : Shape).BroadcastsInDim s (![] : Fin 0 → Fin s.rank)) (coe : FVec F ⟨1, ![11]⟩ .f32)
    (w : BitVec 32) (k : ℕ) (hk : (⟨1, ![11]⟩ : Shape).Slices ![k] ⟨1, ![1]⟩) (z : FVec F s .f32) : FVec F s .f32 :=
  mulf (broadcastInDim s ![] hb (mulf (constant ⟨0, ![]⟩ .f32 w)
    (shapeCast _ (extractStridedSlice ⟨1, ![1]⟩ ![k] coe hk) (by decide)))) z

/-- The whole filter: the eleven weighted products, added in the reference's order. -/
def filter (hb : (⟨0, ![]⟩ : Shape).BroadcastsInDim s (![] : Fin 0 → Fin s.rank)) (coe : FVec F ⟨1, ![11]⟩ .f32)
    (A : FVec F s .f32 → FVec F s .f32) (h : FVec F s .f32) : FVec F s .f32 :=
  addf (addf (addf (addf (addf (addf (addf (addf (addf (addf
    (weighted hb coe 0x3A800000#32 0 (by decide) (stepsUp A 10 h))
    (weighted hb coe 0x3C200000#32 1 (by decide) (stepsDown A 1 (stepsUp A 9 h))))
    (weighted hb coe 0x3D340000#32 2 (by decide) (stepsDown A 2 (stepsUp A 8 h))))
    (weighted hb coe 0x3DF00000#32 3 (by decide) (stepsDown A 3 (stepsUp A 7 h))))
    (weighted hb coe 0x3E520000#32 4 (by decide) (stepsDown A 4 (stepsUp A 6 h))))
    (weighted hb coe 0x3E7C0000#32 5 (by decide) (stepsDown A 5 (stepsUp A 5 h))))
    (weighted hb coe 0x3E520000#32 6 (by decide) (stepsDown A 6 (stepsUp A 4 h))))
    (weighted hb coe 0x3DF00000#32 7 (by decide) (stepsDown A 7 (stepsUp A 3 h))))
    (weighted hb coe 0x3D340000#32 8 (by decide) (stepsDown A 8 (stepsUp A 2 h))))
    (weighted hb coe 0x3C200000#32 9 (by decide) (stepsDown A 9 (stepsUp A 1 h))))
    (weighted hb coe 0x3A800000#32 10 (by decide) (stepsDown A 10 h))

end Terms

section Real

variable {s : Shape}

/-- A real array, as an array of extended reals. -/
def emb (f : s.Idx → ℝ) : FVec Ideal s .f32 := fun i => ((f i : ℝ) : EReal)

theorem addf_emb (f g : s.Idx → ℝ) : addf (emb f) (emb g) = emb (f + g) :=
  funext fun i => (EReal.coe_add (f i) (g i)).symm

theorem subf_emb (f g : s.Idx → ℝ) : subf (emb f) (emb g) = emb (f - g) :=
  funext fun i => (EReal.coe_sub (f i) (g i)).symm

variable {A : FVec Ideal s .f32 → FVec Ideal s .f32} {L : Module.End ℝ (s.Idx → ℝ)}

/-- On real arrays the steps up are the powers of `1 + L`. -/
theorem stepsUp_emb (hA : ∀ f, A (emb f) = emb (L f)) (n : ℕ) (f : s.Idx → ℝ) :
    stepsUp A n (emb f) = emb (((1 + L) ^ n) f) := by
  induction n with
  | zero => rfl
  | succ n ih => rw [stepsUp, ih, hA, addf_emb, pow_succ', Module.End.mul_apply]; rfl

/-- On real arrays the steps down are the powers of `1 - L`. -/
theorem stepsDown_emb (hA : ∀ f, A (emb f) = emb (L f)) (n : ℕ) (f : s.Idx → ℝ) :
    stepsDown A n (emb f) = emb (((1 - L) ^ n) f) := by
  induction n with
  | zero => rfl
  | succ n ih => rw [stepsDown, ih, hA, subf_emb, pow_succ', Module.End.mul_apply]; rfl

/-- A weighted product of a real array, the coefficient being one. -/
theorem weighted_emb {hb : (⟨0, ![]⟩ : Shape).BroadcastsInDim s (![] : Fin 0 → Fin s.rank)}
    {coe : FVec Ideal ⟨1, ![11]⟩ .f32} (hcoe : ∀ i, coe i = (1 : EReal)) {w : BitVec 32} {c : ℝ}
    (hw : Ideal.ofBits .f32 w = (c : EReal)) {k : ℕ} {hk : (⟨1, ![11]⟩ : Shape).Slices ![k] ⟨1, ![1]⟩}
    (f : s.Idx → ℝ) : weighted hb coe w k hk (emb f) = emb (c • f) := by
  funext i
  change (Ideal.ofBits .f32 w * coe _) * ((f i : ℝ) : EReal) = ((c * f i : ℝ) : EReal)
  rw [hcoe, hw, mul_one, EReal.coe_mul]

/-- The binomial theorem for `(1 - L) + (1 + L) = 2`. -/
theorem binomial {E : Type} [AddCommGroup E] [Module ℝ E] (L : Module.End ℝ E) (f : E) :
    ∑ k ∈ Finset.range 11, ((Nat.choose 10 k : ℝ) / 1024) • ((1 - L) ^ k) (((1 + L) ^ (10 - k)) f) = f := by
  have hc : Commute (1 - L) (1 + L) :=
    ((Commute.one_left _).sub_left ((Commute.one_right L).add_right (Commute.refl L)))
  have h2 : (1 - L) + (1 + L) = (2 : ℝ) • (1 : Module.End ℝ E) := by
    rw [two_smul]; abel
  have h : ∑ k ∈ Finset.range 11, (1 - L) ^ k * (1 + L) ^ (10 - k) * ((Nat.choose 10 k : ℕ) : Module.End ℝ E)
      = ((2 : ℝ) ^ 10) • (1 : Module.End ℝ E) := by
    rw [← hc.add_pow 10, h2, smul_pow, one_pow]
  have hf := congrArg (fun T : Module.End ℝ E => (1 / 1024 : ℝ) • T f) h
  simp only [LinearMap.sum_apply, LinearMap.smul_apply, Module.End.one_apply, Finset.smul_sum, smul_smul] at hf
  rw [show (1 / 1024 * 2 ^ 10 : ℝ) = 1 by norm_num, one_smul] at hf
  refine Eq.trans (Finset.sum_congr rfl fun k _ => ?_) hf
  rw [← nsmul_eq_mul', LinearMap.smul_apply, Module.End.mul_apply, ← Nat.cast_smul_eq_nsmul ℝ, smul_smul]
  congr 1
  ring

/-- The eleven weights are the binomial coefficients over `2 ^ 10`. -/
theorem weights :
    Ideal.ofBits .f32 0x3A800000#32 = ((Nat.choose 10 0 / 1024 : ℝ) : EReal)
    ∧ Ideal.ofBits .f32 0x3C200000#32 = ((Nat.choose 10 1 / 1024 : ℝ) : EReal)
    ∧ Ideal.ofBits .f32 0x3D340000#32 = ((Nat.choose 10 2 / 1024 : ℝ) : EReal)
    ∧ Ideal.ofBits .f32 0x3DF00000#32 = ((Nat.choose 10 3 / 1024 : ℝ) : EReal)
    ∧ Ideal.ofBits .f32 0x3E520000#32 = ((Nat.choose 10 4 / 1024 : ℝ) : EReal)
    ∧ Ideal.ofBits .f32 0x3E7C0000#32 = ((Nat.choose 10 5 / 1024 : ℝ) : EReal) := by
  refine ⟨?_, ?_, ?_, ?_, ?_, ?_⟩ <;>
    (simp [Ideal.ofBits, Ideal.ieee, Nat.choose, -EReal.coe_mul]; try norm_num)

/-- The filter with unit coefficients is the identity on real arrays. -/
theorem filter_emb {hb : (⟨0, ![]⟩ : Shape).BroadcastsInDim s (![] : Fin 0 → Fin s.rank)}
    {coe : FVec Ideal ⟨1, ![11]⟩ .f32} (hcoe : ∀ i, coe i = (1 : EReal)) (hA : ∀ f, A (emb f) = emb (L f))
    (f : s.Idx → ℝ) : filter hb coe A (emb f) = emb f := by
  obtain ⟨w0, w1, w2, w3, w4, w5⟩ := weights
  have w6 : Ideal.ofBits .f32 0x3E520000#32 = ((Nat.choose 10 6 / 1024 : ℝ) : EReal) := w4
  have w7 : Ideal.ofBits .f32 0x3DF00000#32 = ((Nat.choose 10 7 / 1024 : ℝ) : EReal) := w3
  have w8 : Ideal.ofBits .f32 0x3D340000#32 = ((Nat.choose 10 8 / 1024 : ℝ) : EReal) := w2
  have w9 : Ideal.ofBits .f32 0x3C200000#32 = ((Nat.choose 10 9 / 1024 : ℝ) : EReal) := w1
  have w10 : Ideal.ofBits .f32 0x3A800000#32 = ((Nat.choose 10 10 / 1024 : ℝ) : EReal) := by
    rw [w0]; norm_num
  rw [filter]
  simp only [stepsUp_emb hA, stepsDown_emb hA]
  rw [weighted_emb hcoe w0, weighted_emb hcoe w1, weighted_emb hcoe w2, weighted_emb hcoe w3, weighted_emb hcoe w4,
    weighted_emb hcoe w5, weighted_emb hcoe w6, weighted_emb hcoe w7, weighted_emb hcoe w8, weighted_emb hcoe w9]
  rw [weighted_emb hcoe w10]
  simp only [addf_emb]
  refine congrArg emb (Eq.trans ?_ (binomial L f))
  simp only [Finset.sum_range_succ, Finset.sum_range_zero, zero_add, pow_zero, Module.End.one_apply,
    Nat.reduceSub]

end Real

end Cert.Proof

end
-- ==== Proof.Adjacency.lean ====
/- The normalized adjacency of the reference, as a map on arrays, and what it does to real arrays.

   An edge carries a weight, the product of the inverse square roots of its two ends' degrees.  The map gathers the
   rows at the edges' sources, multiplies each by its edge's weight and adds it into the row of the edge's target.
   Nothing is assumed of the edges' words: a gather reads some row whatever the word is, and an update that lands
   outside is dropped.  On real arrays the map is therefore linear, and the weights are always real. -/
module

public import proofs.«01_k».proof.Proof.Filter

@[expose] public section

noncomputable section

namespace Cert.Proof

open Idealize.ShloMosaic

/-- The shapes of one number, of the rows' vector, of the edges' vector, of the edges' column. -/
abbrev One : Shape := ⟨0, ![]⟩
abbrev Rows : Shape := ⟨1, ![10000]⟩
abbrev Edges : Shape := ⟨1, ![640000]⟩
abbrev EdgeColumn : Shape := ⟨2, ![640000, 1]⟩

section Terms

variable {F : FTy → Type} [FloatOps F]

/-- A vector of the edges as a column. -/
def column {α : Type} (v : Edges.Idx → α) : EdgeColumn.Idx → α := broadcastInDim EdgeColumn ![0] (by decide) v

/-- Row numbers, the negative ones counted from the end. -/
def wrapped (v : IVec Edges 32) : IVec Edges 32 :=
  select (cmpi .slt v (broadcastInDim Edges ![] (by decide) (constantI One 32 0#32)))
    (addi v (broadcastInDim Edges ![] (by decide) (constantI One 32 10000#32))) v

/-- How many edges point to each row. -/
def degree (ds : ScatterDims Rows EdgeColumn Edges) (dst : IVec Edges 32) : FVec F Rows .f32 :=
  Host.scatterAdd ds (broadcastInDim Rows ![] (by decide) (constant One .f32 0x00000000#32)) (column dst)
    (broadcastInDim Edges ![] (by decide) (constant One .f32 0x3F800000#32))

/-- The inverse square root where the degree is positive, zero elsewhere. -/
def invSqrt (deg : FVec F Rows .f32) : FVec F Rows .f32 :=
  select (cmpf .ogt deg (broadcastInDim Rows ![] (by decide) (constant One .f32 0x00000000#32)))
    (Host.divf (broadcastInDim Rows ![] (by decide) (constant One .f32 0x3F800000#32))
      (Host.sqrt (select (cmpf .ogt deg (broadcastInDim Rows ![] (by decide) (constant One .f32 0x00000000#32))) deg
        (broadcastInDim Rows ![] (by decide) (constant One .f32 0x3F800000#32)))))
    (broadcastInDim Rows ![] (by decide) (constant One .f32 0x00000000#32))

/-- The edges' weights. -/
def edgeWeight (dg : GatherDims Rows EdgeColumn Edges) (dinv : FVec F Rows .f32) (src dst : IVec Edges 32) :
    FVec F Edges .f32 :=
  mulf (Host.gather dg dinv (column (wrapped src))) (Host.gather dg dinv (column (wrapped dst)))

variable {n : ℕ}

/-- The adjacency map on rows of `n` entries. -/
def adjacency (hz : One.BroadcastsInDim ⟨2, ![10000, n]⟩ (![] : Fin 0 → Fin 2))
    (hw : EdgeColumn.BroadcastsInDim ⟨2, ![640000, n]⟩ (![0, 1] : Fin 2 → Fin 2))
    (dg : GatherDims ⟨2, ![10000, n]⟩ EdgeColumn ⟨2, ![640000, n]⟩)
    (ds : ScatterDims ⟨2, ![10000, n]⟩ EdgeColumn ⟨2, ![640000, n]⟩)
    (w : FVec F Edges .f32) (src dst : IVec Edges 32) (z : FVec F ⟨2, ![10000, n]⟩ .f32) :
    FVec F ⟨2, ![10000, n]⟩ .f32 :=
  Host.scatterAdd ds (broadcastInDim ⟨2, ![10000, n]⟩ ![] hz (constant One .f32 0x00000000#32)) (column dst)
    (mulf (broadcastInDim ⟨2, ![640000, n]⟩ ![0, 1] hw (column w)) (Host.gather dg z (column (wrapped src))))

end Terms

section Real

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mulf_emb {s : Shape} (f g : s.Idx → ℝ) : mulf (emb f) (emb g) = emb (f * g) :=
  funext fun i => (EReal.coe_mul (f i) (g i)).symm

/-- At each element, the sum of the real updates that land there. -/
def landed {s si u : Shape} (d : ScatterDims s si u) (idx : IVec si 32) (f : u.Idx → ℝ) : s.Idx → ℝ :=
  fun i => ∑ j ∈ Finset.univ.filter (fun j => d.resultIdx? j idx = some i), f j

/-- A scatter that adds real updates to zeros leaves, at each element, the real sum of what lands there. -/
theorem scatterAdd_emb {s si u : Shape} (d : ScatterDims s si u) {z : FVec Ideal s .f32} (hz : ∀ i, z i = (0 : EReal))
    (idx : IVec si 32) (f : u.Idx → ℝ) : Host.scatterAdd d z idx (emb f) = emb (landed d idx f) := by
  funext i
  change z i + ∑ j ∈ Finset.univ.filter (fun j => d.resultIdx? j idx = some i), ((f j : ℝ) : EReal) = _
  rw [hz, zero_add]
  exact (coe_sum _ _).symm

theorem zeros_apply {s : Shape} (h : One.BroadcastsInDim s (![] : Fin 0 → Fin s.rank)) (i : s.Idx) :
    broadcastInDim s ![] h (constant (F := Ideal) One .f32 0x00000000#32) i = (0 : EReal) :=
  Ideal.ofBits_zero_f32

theorem ones_apply {s : Shape} (h : One.BroadcastsInDim s (![] : Fin 0 → Fin s.rank)) (i : s.Idx) :
    broadcastInDim s ![] h (constant (F := Ideal) One .f32 0x3F800000#32) i = (1 : EReal) :=
  Ideal.ofBits_one_f32

/-- The degrees are real. -/
theorem degree_real (ds : ScatterDims Rows EdgeColumn Edges) (dst : IVec Edges 32) :
    ∃ r, degree (F := Ideal) ds dst = emb r := by
  have h : (broadcastInDim Edges ![] (by decide) (constant One .f32 0x3F800000#32) : FVec Ideal Edges .f32)
      = emb fun _ => 1 := funext fun i => ones_apply _ i
  rw [degree, h, scatterAdd_emb ds (zeros_apply _)]
  exact ⟨_, rfl⟩

/-- The inverse square roots of real degrees are real: the root taken is of a positive number. -/
theorem invSqrt_real (r : Rows.Idx → ℝ) : ∃ q, invSqrt (emb r) = emb q := by
  refine ⟨fun i => if 0 < r i then 1 / Real.sqrt (r i) else 0, funext fun i => ?_⟩
  change Scalar.select (BitVec.ofBool (decide (Ideal.ofBits .f32 0x00000000#32 < ((r i : ℝ) : EReal))))
      (Ideal.div (Ideal.ofBits .f32 0x3F800000#32)
        (Ideal.sqrt (Scalar.select (BitVec.ofBool (decide (Ideal.ofBits .f32 0x00000000#32 < ((r i : ℝ) : EReal))))
          ((r i : ℝ) : EReal) (Ideal.ofBits .f32 0x3F800000#32))))
      (Ideal.ofBits .f32 0x00000000#32) = ((if 0 < r i then 1 / Real.sqrt (r i) else 0 : ℝ) : EReal)
  rw [Ideal.ofBits_zero_f32, Ideal.ofBits_one_f32]
  by_cases h : 0 < r i
  · have hE : (0 : EReal) < ((r i : ℝ) : EReal) := by exact_mod_cast h
    simp only [hE, h, decide_true, if_true]
    change Ideal.div 1 (Ideal.sqrt ((r i : ℝ) : EReal)) = _
    rw [Ideal.sqrt_coe, if_neg (not_lt.2 h.le), Ideal.div_coe (Real.sqrt_pos.2 h).ne', one_mul]
  · have hE : ¬ (0 : EReal) < ((r i : ℝ) : EReal) := by exact_mod_cast h
    simp only [hE, h, decide_false, if_false]
    rfl

/-- The weights made from real inverse square roots are real. -/
theorem edgeWeight_real (dg : GatherDims Rows EdgeColumn Edges) (q : Rows.Idx → ℝ) (src dst : IVec Edges 32) :
    ∃ w, edgeWeight dg (emb q) src dst = emb w :=
  ⟨_, mulf_emb (Host.gather dg q (column (wrapped src))) (Host.gather dg q (column (wrapped dst)))⟩

variable {n : ℕ}

/-- The adjacency map of real arrays, for real weights: a linear map. -/
def neighbourSum (hw : EdgeColumn.BroadcastsInDim ⟨2, ![640000, n]⟩ (![0, 1] : Fin 2 → Fin 2))
    (dg : GatherDims ⟨2, ![10000, n]⟩ EdgeColumn ⟨2, ![640000, n]⟩)
    (ds : ScatterDims ⟨2, ![10000, n]⟩ EdgeColumn ⟨2, ![640000, n]⟩)
    (w : Edges.Idx → ℝ) (src dst : IVec Edges 32) : Module.End ℝ ((⟨2, ![10000, n]⟩ : Shape).Idx → ℝ) where
  toFun f := landed ds (column dst)
    (broadcastInDim ⟨2, ![640000, n]⟩ ![0, 1] hw (column w) * Host.gather dg f (column (wrapped src)))
  map_add' f g := funext fun i =>
    Eq.trans (Finset.sum_congr rfl fun j _ => mul_add _ _ _) Finset.sum_add_distrib
  map_smul' c f := funext fun i =>
    Eq.trans (Finset.sum_congr rfl fun j _ => mul_left_comm _ c _) (Finset.mul_sum _ _ _).symm

/-- With real weights the adjacency map is linear on real arrays. -/
theorem adjacency_linear (hz : One.BroadcastsInDim ⟨2, ![10000, n]⟩ (![] : Fin 0 → Fin 2))
    (hw : EdgeColumn.BroadcastsInDim ⟨2, ![640000, n]⟩ (![0, 1] : Fin 2 → Fin 2))
    (dg : GatherDims ⟨2, ![10000, n]⟩ EdgeColumn ⟨2, ![640000, n]⟩)
    (ds : ScatterDims ⟨2, ![10000, n]⟩ EdgeColumn ⟨2, ![640000, n]⟩)
    (w : Edges.Idx → ℝ) (src dst : IVec Edges 32) :
    ∃ L : Module.End ℝ ((⟨2, ![10000, n]⟩ : Shape).Idx → ℝ),
      ∀ f, adjacency hz hw dg ds (emb w) src dst (emb f) = emb (L f) := by
  refine ⟨neighbourSum hw dg ds w src dst, fun f => ?_⟩
  have h : mulf (broadcastInDim ⟨2, ![640000, n]⟩ ![0, 1] hw (column (emb w)))
        (Host.gather dg (emb f) (column (wrapped src)))
      = emb (broadcastInDim ⟨2, ![640000, n]⟩ ![0, 1] hw (column w) * Host.gather dg f (column (wrapped src))) :=
    mulf_emb _ _
  rw [adjacency, h, scatterAdd_emb ds (zeros_apply hz)]
  rw [neighbourSum, LinearMap.coe_mk, AddHom.coe_mk]

end Real

end Cert.Proof

end
-- ==== Proof.Network.lean ====
/- What the reference computes, as one function of its arguments.

   The reference's printed run ends at a term of two thousand operations.  The functions below say the same in a few
   lines, at any floats: the edges' ends, their weights, two layers of a product, a bias, a filter and a positive part,
   and a last product and bias.  That the printed term is this function holds by unfolding both. -/
module

public import proofs.«01_k».proof.Proof.Adjacency
public import proofs.«01_k».proof.Proof.Gen.ReferenceIdeal.Run
public import Idealize.ShloMosaic.Lib.Tactic

@[expose] public section

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The edges' sources and targets: the two rows of the edge list. -/
def source (e : IVec S2x640000 32) : IVec Edges 32 :=
  shapeCast _ (extractStridedSlice S1x640000 ![0, 0] e slices_S2x640000_S1x640000_0_0) shapeCasts_S1x640000_S640000
def target (e : IVec S2x640000 32) : IVec Edges 32 :=
  shapeCast _ (extractStridedSlice S1x640000 ![1, 0] e slices_S2x640000_S1x640000_1_0) shapeCasts_S1x640000_S640000

/-- The edges' weights. -/
def weight (e : IVec S2x640000 32) : FVec F Edges .f32 :=
  edgeWeight gather_S10000_S640000x1_S640000_n_0_n_n_0_1_1
    (invSqrt (degree scatter_S10000_S640000x1_S640000_n_0_0_1 (target e))) (source e) (target e)

/-- The adjacency map on rows of 32 and of 64 entries. -/
def adjacency32 (e : IVec S2x640000 32) : FVec F S10000x32 .f32 → FVec F S10000x32 .f32 :=
  adjacency bcast_S_S10000x32 bcast_S640000x1_S640000x32_0_1 gather_S10000x32_S640000x1_S640000x32_1_0_n_n_0_1_132
    scatter_S10000x32_S640000x1_S640000x32_1_0_0_1 (weight e) (source e) (target e)
def adjacency64 (e : IVec S2x640000 32) : FVec F S10000x64 .f32 → FVec F S10000x64 .f32 :=
  adjacency bcast_S_S10000x64 bcast_S640000x1_S640000x64_0_1 gather_S10000x64_S640000x1_S640000x64_1_0_n_n_0_1_164
    scatter_S10000x64_S640000x1_S640000x64_1_0_0_1 (weight e) (source e) (target e)

/-- The positive part of an array. -/
def relu {s : Shape} (hb : One.BroadcastsInDim s (![] : Fin 0 → Fin s.rank)) (z : FVec F s .f32) : FVec F s .f32 :=
  maximumf z (broadcastInDim s ![] hb (constant One .f32 0x00000000#32))

/-- The first product and bias. -/
def first (x : FVec F S10000x1 .f32) (w1 : FVec F S1x32 .f32) (b1 : FVec F S32 .f32) : FVec F S10000x32 .f32 :=
  addf (Host.dotGeneral dot_S10000x1_S1x32_S10000x32_1_0_0_1_n_n none x w1)
    (broadcastInDim S10000x32 ![0, 1] bcast_S1x32_S10000x32_0_1 (broadcastInDim S1x32 ![1] bcast_S32_S1x32_1 b1))

/-- The second product and bias. -/
def second (z : FVec F S10000x32 .f32) (w2 : FVec F S32x64 .f32) (b2 : FVec F S64 .f32) : FVec F S10000x64 .f32 :=
  addf (Host.dotGeneral dot_S10000x32_S32x64_S10000x64_1_0_0_1_n_n none z w2)
    (broadcastInDim S10000x64 ![0, 1] bcast_S1x64_S10000x64_0_1 (broadcastInDim S1x64 ![1] bcast_S64_S1x64_1 b2))

/-- The last product and bias. -/
def last (z : FVec F S10000x64 .f32) (wf : FVec F S64x1 .f32) (bf : FVec F S1 .f32) : FVec F S10000x1 .f32 :=
  addf (Host.dotGeneral dot_S10000x64_S64x1_S10000x1_1_0_0_1_n_n none z wf)
    (broadcastInDim S10000x1 ![0, 1] bcast_S1x1_S10000x1_0_1 (broadcastInDim S1x1 ![1] bcast_S1_S1x1_1 bf))

/-- The whole reference. -/
def network (x : FVec F S10000x1 .f32) (e : IVec S2x640000 32) (coe : FVec F S11 .f32) (w1 : FVec F S1x32 .f32)
    (b1 : FVec F S32 .f32) (w2 : FVec F S32x64 .f32) (b2 : FVec F S64 .f32) (wf : FVec F S64x1 .f32)
    (bf : FVec F S1 .f32) : FVec F S10000x1 .f32 :=
  last (relu bcast_S_S10000x64 (filter bcast_S_S10000x64 (relu bcast_S_S11 coe) (adjacency64 e)
    (second (relu bcast_S_S10000x32 (filter bcast_S_S10000x32 (relu bcast_S_S11 coe) (adjacency32 e) (first x w1 b1)))
      w2 b2))) wf bf

set_option maxRecDepth 65536 in
/-- What the printed run holds after the first layer and the second product. -/
theorem layer1 (V0 : Valuation τ sig (Elt F)) : res_main_v1016 V0
    = second (relu bcast_S_S10000x32 (filter bcast_S_S10000x32 (relu bcast_S_S11 (V0 (Proc.devRef .tc main_arg2)))
        (adjacency32 (V0 (Proc.devRef .tc main_arg1)))
        (first (V0 (Proc.devRef .tc main_arg0)) (V0 (Proc.devRef .tc main_arg3)) (V0 (Proc.devRef .tc main_arg4)))))
      (V0 (Proc.devRef .tc main_arg5)) (V0 (Proc.devRef .tc main_arg6)) := by
  sl_kernel_rfl

set_option maxRecDepth 65536 in
/-- What the printed run leaves in the result. -/
theorem layer2 (V0 : Valuation τ sig (Elt F)) : val41 V0 (Proc.devRef .tc main_v1997)
    = last (relu bcast_S_S10000x64 (filter bcast_S_S10000x64 (relu bcast_S_S11 (V0 (Proc.devRef .tc main_arg2)))
        (adjacency64 (V0 (Proc.devRef .tc main_arg1))) (res_main_v1016 V0)))
      (V0 (Proc.devRef .tc main_arg7)) (V0 (Proc.devRef .tc main_arg8)) := by
  refine (val41_main_v1997 V0).trans ?_
  sl_kernel_rfl

/-- The result of a run of the reference is the network of its arguments. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1997)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) :=
  (θ_run defs _ _).mono
    (fun _ h c => (h c).1.trans ((val41_main_v1997 (launchContents m c)).symm.trans
      ((layer2 (launchContents m c)).trans (by rw [layer1]; rfl))))
    (Value.run m ρ)

end Cert.Proof

end
-- ==== Proof.Reference.lean ====
/- What the reference computes over the extended reals, when its filter's coefficients are one.

   The edges' weights are real whatever the edges are, so the adjacency map takes real arrays to real arrays, linearly,
   and a filter whose coefficients are one changes no real array.  With finite features and weights both layers' inputs
   are real, and what remains of the network is a perceptron of two hidden layers. -/
module

public import proofs.«01_k».proof.Proof.Network
public import Idealize.ShloMosaic.Lib.Pointwise

@[expose] public section

noncomputable section

namespace Cert.Proof

open Idealize.ShloMosaic
open Cert.ReferenceIdeal Cert.ReferenceIdeal.Gen

/-- The edges' weights are real. -/
theorem weight_real (e : IVec S2x640000 32) : ∃ w, weight (F := Ideal) e = emb w := by
  obtain ⟨r, hr⟩ := degree_real scatter_S10000_S640000x1_S640000_n_0_0_1 (target e)
  obtain ⟨q, hq⟩ := invSqrt_real r
  rw [weight, hr, hq]
  exact edgeWeight_real _ q _ _

/-- A positive part of a real array is real. -/
theorem relu_emb {s : Shape} (hb : One.BroadcastsInDim s (![] : Fin 0 → Fin s.rank)) (f : s.Idx → ℝ) :
    relu hb (emb f) = emb fun i => max (f i) 0 := by
  funext i
  change max ((f i : ℝ) : EReal) (broadcastInDim s ![] hb (constant (F := Ideal) One .f32 0x00000000#32) i) = _
  rw [zeros_apply]
  exact (EReal.coe_strictMono.monotone.map_max (a := f i) (b := 0)).symm

/-- The positive part of a one is one. -/
theorem relu_one {s : Shape} (hb : One.BroadcastsInDim s (![] : Fin 0 → Fin s.rank)) {c : FVec Ideal s .f32}
    (hc : ∀ i, c i = (1 : EReal)) (i : s.Idx) : relu hb c i = (1 : EReal) := by
  change max (c i) (broadcastInDim s ![] hb (constant (F := Ideal) One .f32 0x00000000#32) i) = _
  rw [zeros_apply, hc]
  exact max_eq_left zero_le_one

/-- The first product and bias, row by row. -/
theorem first_apply (x : FVec Ideal S10000x1 .f32) (w1 : FVec Ideal S1x32 .f32) (b1 : FVec Ideal S32 .f32)
    (i : Fin 10000) (k : Fin 32) :
    first x w1 b1 (ix2 i k) = (x (ix2 i 0) * w1 (ix2 0 k) + b1 (ix1 k) : EReal) := by
  pointwise [first]
  exact congrArg (· + b1 (ix1 k)) (Fin.sum_univ_one (fun l : Fin 1 => x (ix2 i l) * w1 (ix2 l k)))

/-- The second product and bias, row by row. -/
theorem second_apply (z : FVec Ideal S10000x32 .f32) (w2 : FVec Ideal S32x64 .f32) (b2 : FVec Ideal S64 .f32)
    (i : Fin 10000) (j : Fin 64) :
    second z w2 b2 (ix2 i j) = ((∑ k : Fin 32, z (ix2 i k) * w2 (ix2 k j)) + b2 (ix1 j) : EReal) := by
  pointwise [second]

/-- The last product and bias, row by row. -/
theorem last_apply (z : FVec Ideal S10000x64 .f32) (wf : FVec Ideal S64x1 .f32) (bf : FVec Ideal S1 .f32)
    (i : Fin 10000) :
    last z wf bf (ix2 i 0) = ((∑ j : Fin 64, z (ix2 i j) * wf (ix2 j 0)) + bf (ix1 0) : EReal) := by
  pointwise [last]

/-- A positive part, element by element. -/
theorem relu_apply {s : Shape} (hb : One.BroadcastsInDim s (![] : Fin 0 → Fin s.rank)) (z : FVec Ideal s .f32)
    (i : s.Idx) : relu hb z i = max (z i : EReal) 0 := by
  change max (z i) (broadcastInDim s ![] hb (constant (F := Ideal) One .f32 0x00000000#32) i) = _
  rw [zeros_apply]

/-- The first product and bias of real arrays is real. -/
theorem first_emb (x : S10000x1.Idx → ℝ) (w1 : S1x32.Idx → ℝ) (b1 : S32.Idx → ℝ) :
    ∃ f, first (emb x) (emb w1) (emb b1) = emb f := by
  refine ⟨fun i => x (ix2 (i 0) 0) * w1 (ix2 0 (i 1)) + b1 (ix1 (i 1)), funext fun i => ?_⟩
  idx_vars i
  rw [first_apply]
  simp only [emb, ← EReal.coe_mul, ← EReal.coe_add]
  rfl

/-- The second product and bias of real arrays is real. -/
theorem second_emb (z : S10000x32.Idx → ℝ) (w2 : S32x64.Idx → ℝ) (b2 : S64.Idx → ℝ) :
    ∃ f, second (emb z) (emb w2) (emb b2) = emb f := by
  refine ⟨fun i => (∑ k : Fin 32, z (ix2 (i 0) k) * w2 (ix2 k (i 1))) + b2 (ix1 (i 1)), funext fun i => ?_⟩
  idx_vars i
  rw [second_apply]
  simp only [emb, ← EReal.coe_mul, ← coe_sum, ← EReal.coe_add]
  rfl

/-- With coefficients one and finite features and weights, the network is the network without its filters. -/
theorem network_unfiltered (x : S10000x1.Idx → ℝ) (e : IVec S2x640000 32) (coe : FVec Ideal S11 .f32)
    (hcoe : ∀ i, coe i = (1 : EReal)) (w1 : S1x32.Idx → ℝ) (b1 : S32.Idx → ℝ) (w2 : S32x64.Idx → ℝ) (b2 : S64.Idx → ℝ)
    (wf : FVec Ideal S64x1 .f32) (bf : FVec Ideal S1 .f32) :
    network (emb x) e coe (emb w1) (emb b1) (emb w2) (emb b2) wf bf
      = last (relu bcast_S_S10000x64 (second (relu bcast_S_S10000x32 (first (emb x) (emb w1) (emb b1))) (emb w2) (emb b2)))
          wf bf := by
  obtain ⟨w, hw⟩ := weight_real e
  obtain ⟨L32, h32⟩ := adjacency_linear bcast_S_S10000x32 bcast_S640000x1_S640000x32_0_1
    gather_S10000x32_S640000x1_S640000x32_1_0_n_n_0_1_132 scatter_S10000x32_S640000x1_S640000x32_1_0_0_1 w (source e) (target e)
  obtain ⟨L64, h64⟩ := adjacency_linear bcast_S_S10000x64 bcast_S640000x1_S640000x64_0_1
    gather_S10000x64_S640000x1_S640000x64_1_0_n_n_0_1_164 scatter_S10000x64_S640000x1_S640000x64_1_0_0_1 w (source e) (target e)
  have a32 : ∀ f, adjacency32 e (emb f) = emb (L32 f) := fun f => by rw [adjacency32, hw]; exact h32 f
  have a64 : ∀ f, adjacency64 e (emb f) = emb (L64 f) := fun f => by rw [adjacency64, hw]; exact h64 f
  obtain ⟨f, hf⟩ := first_emb x w1 b1
  obtain ⟨g, hg⟩ := second_emb (fun i => max (f i) 0) w2 b2
  rw [network, hf, filter_emb (relu_one _ hcoe) a32, relu_emb, hg, filter_emb (relu_one _ hcoe) a64]

end Cert.Proof

end
-- ==== Proof.Mlp.lean ====
/- What the kernel leaves in its result, row by row.

   The kernel has one grid point.  Its body reads whole arrays and writes one row of 10000 numbers, which the host then
   turns into a column.  Number `i` of it is a sum over 64 hidden units, each the positive part of a sum over 32 first
   units, each the positive part of one product and a bias. -/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

noncomputable section

namespace Cert.Proof

open Idealize.ShloMosaic Idealize.SL.Sem Cert.KernelIdeal Cert.KernelIdeal.Gen

/-- Column `i` of what the body stores. -/
theorem body_apply (x : Vec Ideal S1x10000 .f32) (w1 b1 : Vec Ideal S32x1 .f32) (w2 : Vec Ideal S64x32 .f32)
    (b2 : Vec Ideal S64x1 .f32) (wf : Vec Ideal S1x64 .f32) (bf : Vec Ideal S1x1 .f32) (i : Fin 10000) :
    k0_pay1 x w1 b1 w2 b2 wf bf (ix2 0 i)
      = (∑ j : Fin 64, wf (ix2 0 j) * max ((∑ k : Fin 32, w2 (ix2 j k) * max (w1 (ix2 k 0) * x (ix2 0 i) + b1 (ix2 k 0)) 0)
          + b2 (ix2 j 0)) 0) + bf (ix2 0 0) := by
  pointwise [k0_pay1]

variable (m : (ℓ : Loc nD τ sig) → Buf (Elt Ideal) ℓ) (ρ : Dev nD → PrngReg)

/-- The perceptron of two hidden layers, one row at a time. -/
def mlp (x : S10000x1.Idx → EReal) (w1 : S1x32.Idx → EReal) (b1 : S32.Idx → EReal) (w2 : S32x64.Idx → EReal)
    (b2 : S64.Idx → EReal) (wf : S64x1.Idx → EReal) (bf : S1.Idx → EReal) : S10000x1.Idx → EReal := fun i =>
  (∑ j : Fin 64, wf (ix2 j 0)
    * max ((∑ k : Fin 32, w2 (ix2 k j) * max (w1 (ix2 0 k) * x (ix2 (i 0) 0) + b1 (ix1 k)) 0) + b2 (ix1 j)) 0) + bf (ix1 0)

/-- At the one grid point every operand's window lies at the origin of its array. -/
theorem origin (a : Fin 2) : win0_0.index t0_0 a = 0 ∧ win0_1.index t0_0 a = 0 ∧ win0_2.index t0_0 a = 0
    ∧ win0_3.index t0_0 a = 0 ∧ win0_4.index t0_0 a = 0 ∧ win0_5.index t0_0 a = 0 ∧ win0_6.index t0_0 a = 0 := by
  revert a
  decide +kernel

/-- Each operand's block is its whole array. -/
theorem blocks (c : Dev nD) : iblk m c 0 t0_0 = V m c main_v0 ∧ iblk m c 1 t0_0 = V m c main_v1
    ∧ iblk m c 2 t0_0 = V m c main_v2 ∧ iblk m c 3 t0_0 = V m c main_v3 ∧ iblk m c 4 t0_0 = V m c main_v4
    ∧ iblk m c 5 t0_0 = V m c main_v5 ∧ iblk m c 6 t0_0 = V m c main_v6 := by
  obtain ⟨o0, o1⟩ := And.intro (origin 0) (origin 1)
  refine ⟨?_, ?_, ?_, ?_, ?_, ?_, ?_⟩ <;> funext y <;> blk_ext [iblk, o0, o1]

/-- The operands as the host leaves them: reshaped arguments, and the second weights transposed. -/
theorem operands (c : Dev nD) (i : Fin 10000) (j : Fin 64) (k : Fin 32) :
    V m c main_v0 (ix2 0 i) = m ((c.tc : Thread nD τ).loc main_arg0) (ix2 i 0)
    ∧ V m c main_v1 (ix2 k 0) = m ((c.tc : Thread nD τ).loc main_arg3) (ix2 0 k)
    ∧ V m c main_v2 (ix2 k 0) = m ((c.tc : Thread nD τ).loc main_arg4) (ix1 k)
    ∧ V m c main_v3 (ix2 j k) = m ((c.tc : Thread nD τ).loc main_arg5) (ix2 k j)
    ∧ V m c main_v4 (ix2 j 0) = m ((c.tc : Thread nD τ).loc main_arg6) (ix1 j)
    ∧ V m c main_v5 (ix2 0 j) = m ((c.tc : Thread nD τ).loc main_arg7) (ix2 j 0)
    ∧ V m c main_v6 (ix2 0 0) = m ((c.tc : Thread nD τ).loc main_arg8) (ix1 0) := by
  dsimp only [V, V0]
  simp only [List.flatten_cons, List.flatten_nil, List.append_nil]
  refine ⟨?_, ?_, ?_, ?_, ?_, ?_, ?_⟩ <;> after_results <;> pointwise

/-- The row that the kernel's region leaves. -/
theorem region_array (c : Dev nD) : (dats m 0 c).arrAt 7 (cfgs 0).N = fun j : S1x10000.Idx =>
    mlp (m ((c.tc : Thread nD τ).loc main_arg0)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (ix2 (j 1) 0) := by
  refine (dats m 0 c).arrAt_eq_of_after_last 7 t0_0 (by decide +kernel) _ fun j => ?_
  blk_simp
  rw [after0_7]
  frame_out
  idx_vars j
  obtain rfl : j0 = 0 := Subsingleton.elim _ _
  obtain ⟨h0, h1, h2, h3, h4, h5, h6⟩ := blocks m c
  rw [body_apply, h0, h1, h2, h3, h4, h5, h6]
  have hi := (operands m c j1 0 0).1
  have hk := fun k => (operands m c j1 0 k).2
  have hjk := fun j k => (operands m c j1 j k).2.2.2
  simp only [hi, (hk _).1, (hk _).2.1, (hjk _ _).1, (hjk _ 0).2.1, (hjk _ 0).2.2.1, (hjk 0 0).2.2.2]
  rfl

/-- The result buffer after the run. -/
theorem kernel_run : θ_run (defs (F := Ideal)) (onTc (τ := τ) (main (F := Ideal))) ⟨m, fun _ => 0, ρ⟩ fun r =>
    ∀ c : Dev nD, r.2.mem ((c.tc : Thread nD τ).loc main_v8)
      = mlp (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  run_from run_main m ρ
  unfold Pipeline.afterTail₀
  simp only [List.flatten_cons, List.flatten_nil, List.append_nil]
  after_results
  erw [Pipeline.withArrays_arr spec0 (by decide) c (V0 m c) _ 7, region_array]
  funext i
  pointwise
  rfl

end Cert.Proof

end
-- ==== Proof.Equation.lean ====
/- The equation: with coefficients one and finite features and weights, the reference's network is the kernel's
   perceptron.  The kernel multiplies weight by value where the reference multiplies value by weight. -/
module

public import proofs.«01_k».proof.Proof.Reference
public import proofs.«01_k».proof.Proof.Mlp

@[expose] public section

noncomputable section

namespace Cert.Proof

open Idealize.ShloMosaic

/-- The network without its filters is the perceptron, at any extended reals. -/
theorem unfiltered_eq_mlp (x : FVec Ideal Cert.ReferenceIdeal.S10000x1 .f32) (w1 : FVec Ideal Cert.ReferenceIdeal.S1x32 .f32)
    (b1 : FVec Ideal Cert.ReferenceIdeal.S32 .f32) (w2 : FVec Ideal Cert.ReferenceIdeal.S32x64 .f32)
    (b2 : FVec Ideal Cert.ReferenceIdeal.S64 .f32) (wf : FVec Ideal Cert.ReferenceIdeal.S64x1 .f32)
    (bf : FVec Ideal Cert.ReferenceIdeal.S1 .f32) :
    last (relu Cert.ReferenceIdeal.Gen.bcast_S_S10000x64
        (second (relu Cert.ReferenceIdeal.Gen.bcast_S_S10000x32 (first x w1 b1)) w2 b2)) wf bf
      = mlp x w1 b1 w2 b2 wf bf := by
  funext i
  obtain ⟨r, k, rfl⟩ : ∃ (r : Fin 10000) (k : Fin 1), i = ix2 r k := ⟨i 0, i 1, by idx_vars i⟩
  obtain rfl : k = 0 := Subsingleton.elim _ _
  rw [last_apply]
  refine congrArg (· + _) (Finset.sum_congr rfl fun j _ => ?_)
  rw [relu_apply, second_apply, mul_comm]
  refine congrArg (fun z : EReal => wf (ix2 j 0) * max (z + b2 (ix1 j)) 0) (Finset.sum_congr rfl fun k _ => ?_)
  rw [relu_apply, first_apply, mul_comm, mul_comm (x _)]
  rfl

/-- Under the precondition the reference's network is the kernel's perceptron. -/
theorem network_eq_mlp (x : FVec Ideal Cert.ReferenceIdeal.S10000x1 .f32)
    (e : IVec Cert.ReferenceIdeal.S2x640000 32)
    (coe : FVec Ideal Cert.ReferenceIdeal.S11 .f32) (w1 : FVec Ideal Cert.ReferenceIdeal.S1x32 .f32)
    (b1 : FVec Ideal Cert.ReferenceIdeal.S32 .f32) (w2 : FVec Ideal Cert.ReferenceIdeal.S32x64 .f32)
    (b2 : FVec Ideal Cert.ReferenceIdeal.S64 .f32) (wf : FVec Ideal Cert.ReferenceIdeal.S64x1 .f32)
    (bf : FVec Ideal Cert.ReferenceIdeal.S1 .f32) (hcoe : ∀ i, coe i = (1 : EReal)) (hx : ∃ f, x = emb f)
    (hw1 : ∃ f, w1 = emb f) (hb1 : ∃ f, b1 = emb f) (hw2 : ∃ f, w2 = emb f) (hb2 : ∃ f, b2 = emb f) :
    network x e coe w1 b1 w2 b2 wf bf = mlp x w1 b1 w2 b2 wf bf := by
  obtain ⟨x, rfl⟩ := hx
  obtain ⟨w1, rfl⟩ := hw1
  obtain ⟨b1, rfl⟩ := hb1
  obtain ⟨w2, rfl⟩ := hw2
  obtain ⟨b2, rfl⟩ := hb2
  rw [network_unfiltered x e coe hcoe, unfiltered_eq_mlp]

end Cert.Proof

end
-- ==== Proof.Condition.lean ====
/- What the precondition says, element by element: the coefficients are one, and each constrained array is real. -/
module

public import proofs.«01_k».proof.Defs
public import proofs.«01_k».proof.Proof.Filter

@[expose] public section

noncomputable section

namespace Cert.Proof

open Idealize.ShloMosaic

/-- The side conditions of the printed precondition. -/
theorem condition_facts : Cert.Pre_unit_coefficients.Facts :=
  ⟨by decide, by decide, by decide, by decide, by decide, by decide⟩

/-- The bit pattern of infinity is the greatest extended real. -/
theorem ofBits_inf : Ideal.ofBits .f32 0x7F800000#32 = (⊤ : EReal) := by
  simp [Ideal.ofBits, Ideal.ieee, -EReal.coe_mul]

/-- An array that compares equal to ones holds ones. -/
theorem ones_of_oeq {s : Shape} (h : (⟨0, ![]⟩ : Shape).BroadcastsInDim s (![] : Fin 0 → Fin s.rank)) {c : FVec Ideal s .f32}
    (hc : cmpf .oeq c (broadcastInDim s ![] h (constant ⟨0, ![]⟩ .f32 0x3F800000#32)) = fun _ => 1#1) (i : s.Idx) :
    c i = (1 : EReal) := by
  have hi : BitVec.ofBool (decide ((c i : EReal) = Ideal.ofBits .f32 0x3F800000#32)) = 1#1 := congrFun hc i
  rw [Ideal.ofBits_one_f32] at hi
  by_contra hne
  rw [decide_eq_false hne] at hi
  exact absurd hi (by decide)

/-- An array whose absolute values compare below infinity is real. -/
theorem real_of_olt {s : Shape} (h : (⟨0, ![]⟩ : Shape).BroadcastsInDim s (![] : Fin 0 → Fin s.rank)) {z : FVec Ideal s .f32}
    (hz : cmpf .olt (Host.absf z) (broadcastInDim s ![] h (constant ⟨0, ![]⟩ .f32 0x7F800000#32)) = fun _ => 1#1) :
    ∃ f, z = emb f := by
  refine ⟨fun i => EReal.toReal (z i), funext fun i => ?_⟩
  have hi : BitVec.ofBool (decide (max (z i : EReal) (-(z i : EReal)) < Ideal.ofBits .f32 0x7F800000#32)) = 1#1 := congrFun hz i
  rw [ofBits_inf] at hi
  have hlt : max (z i : EReal) (-(z i : EReal)) < ⊤ := by
    by_contra hne
    rw [decide_eq_false hne] at hi
    exact absurd hi (by decide)
  obtain ⟨h₁, h₂⟩ := max_lt_iff.1 hlt
  refine (EReal.coe_toReal h₁.ne fun hb => ?_).symm
  rw [hb] at h₂
  exact absurd h₂ (by simp)

end Cert.Proof

end
-- ==== Proof.lean ====
/- The certificate of the kernel against its reference, put together from the modules under Proof/.

   `Mlp` says what the kernel leaves in its result; `Filter`, `Adjacency`, `Network` and `Reference` say what the
   reference leaves in its own; `Condition` reads the precondition; `Equation` joins them.  Here the runs are paired, and
   the frames added. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Condition
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference runs, leaves its arguments as they were, and ends with every semaphore counter at zero: it has no
    semaphores at all. -/
theorem reference_frame : Cert.quiescent_ReferenceIdeal (hReferenceIdeal := Cert.ReferenceIdeal.Gen.facts) :=
  fun m g _ => (θ_run _ _ _).mono
    (fun r h => ⟨fun c => (h c).2, sem_eq_zero_of_no_sems (by decide) r.2⟩) (Cert.ReferenceIdeal.Value.run m g)

/-- The kernel and the reference compute the same array: the perceptron of the kernel's arguments. -/
theorem equal_results : Cert.algebraic_KernelIdeal_ReferenceIdeal_pre_unit_coefficients
    (hKernelIdeal := Cert.KernelIdeal.Gen.facts) (hReferenceIdeal := Cert.ReferenceIdeal.Gen.facts)
    (hPre_unit_coefficients := condition_facts) := by
  intro m g m' g' hpre hagree
  refine ⟨_, θ_run_and (kernel_run m g) (Cert.KernelIdeal.Gen.unchanged m g) |> (θ_run _ _ _).mono
      (fun _ h c => ⟨h.1 c, h.2 c⟩),
    θ_run_and (reference_run m' g') (Cert.ReferenceIdeal.Value.run m' g') |> (θ_run _ _ _).mono
      (fun _ h c => ⟨(h.1 c).trans ?_, (h.2 c).2⟩)⟩
  obtain ⟨h0, h1, h2, h3, h4, h5, h6, h7, h8⟩ := hagree c
  obtain ⟨pcoe, px, pw1, pb1, pw2, pb2⟩ := hpre c
  rw [h0, h1, h2, h3, h4, h5, h6, h7, h8]
  exact network_eq_mlp _ _ _ _ _ _ _ _ _ (ones_of_oeq _ pcoe) (real_of_olt _ px) (real_of_olt _ pw1)
    (real_of_olt _ pb1) (real_of_olt _ pw2) (real_of_olt _ pb2)

/-- All the claims: the frames of the two programs and of the kernel's printed words, and the equality of results. -/
theorem claim : Cert.Claim :=
  ⟨Cert.Kernel.Gen.facts, Cert.KernelIdeal.Gen.facts, Cert.ReferenceIdeal.Gen.facts, condition_facts,
    fun m g _ => Cert.Kernel.Gen.frame m g, fun m g _ => Cert.KernelIdeal.Gen.frame m g,
    fun m g _ => Cert.KernelIdeal.Gen.frame m g, reference_frame, fun m g _ => reference_frame m g trivial, trivial,
    equal_results⟩

end Cert.Proof

end
